-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "scale_log2" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S4096x8192 : Shape := ⟨2, ![4096, 8192]⟩
abbrev S8192x4096 : Shape := ⟨2, ![8192, 4096]⟩
abbrev S1x8192 : Shape := ⟨2, ![1, 8192]⟩
abbrev S32x16 : Shape := ⟨2, ![32, 16]⟩
abbrev S1x128 : Shape := ⟨2, ![1, 128]⟩
abbrev S1x256 : Shape := ⟨2, ![1, 256]⟩
abbrev S128 : Shape := ⟨1, ![128]⟩
abbrev S256 : Shape := ⟨1, ![256]⟩
abbrev S8192 : Shape := ⟨1, ![8192]⟩
abbrev S16x512 : Shape := ⟨2, ![16, 512]⟩
abbrev S_ : Shape := ⟨0, ![]⟩
abbrev S16 : Shape := ⟨1, ![16]⟩
abbrev S8x1024 : Shape := ⟨2, ![8, 1024]⟩
abbrev S8 : Shape := ⟨1, ![8]⟩
abbrev S16x128 : Shape := ⟨2, ![16, 128]⟩
abbrev S16x32 : Shape := ⟨2, ![16, 32]⟩
abbrev S1 : Shape := ⟨1, ![1]⟩
abbrev S8192x1 : Shape := ⟨2, ![8192, 1]⟩
abbrev S8192x8192 : Shape := ⟨2, ![8192, 8192]⟩
abbrev S1x512 : Shape := ⟨2, ![1, 512]⟩
abbrev S1024x1 : Shape := ⟨2, ![1024, 1]⟩
abbrev S1024x512 : Shape := ⟨2, ![1024, 512]⟩
abbrev S1x8 : Shape := ⟨2, ![1, 8]⟩
abbrev S16x1 : Shape := ⟨2, ![16, 1]⟩
abbrev S16x8 : Shape := ⟨2, ![16, 8]⟩
abbrev S9 : Shape := ⟨1, ![9]⟩
abbrev S9x1 : Shape := ⟨2, ![9, 1]⟩
abbrev S16x9 : Shape := ⟨2, ![16, 9]⟩
abbrev S1x9 : Shape := ⟨2, ![1, 9]⟩
abbrev S144 : Shape := ⟨1, ![144]⟩
abbrev S8x256 : Shape := ⟨2, ![8, 256]⟩
abbrev S2 : Shape := ⟨1, ![2]⟩
abbrev S256x512 : Shape := ⟨2, ![256, 512]⟩
abbrev S1024x256 : Shape := ⟨2, ![1024, 256]⟩
abbrev S256x1024 : Shape := ⟨2, ![256, 1024]⟩
abbrev S512x256 : Shape := ⟨2, ![512, 256]⟩
abbrev S1024x128 : Shape := ⟨2, ![1024, 128]⟩
abbrev S128x512 : Shape := ⟨2, ![128, 512]⟩
abbrev S512 : Shape := ⟨1, ![512]⟩
abbrev S1024x128x1 : Shape := ⟨3, ![1024, 128, 1]⟩
abbrev S1x1 : Shape := ⟨2, ![1, 1]⟩
abbrev S512x512 : Shape := ⟨2, ![512, 512]⟩
abbrev S512x1 : Shape := ⟨2, ![512, 1]⟩

abbrev nBuf : Space → Nat
  | .hbm => 114
  | .vmem => 32
  | .smem => 6
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S4096x8192, .bf16⟩
  | .hbm, ⟨3, _⟩ => ⟨S1x8192, .i32⟩
  | .hbm, ⟨4, _⟩ => ⟨S32x16, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x256, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S256, .f32⟩
  | .hbm, ⟨15, _⟩ => ⟨S8192, .i32⟩
  | .hbm, ⟨16, _⟩ => ⟨S16x512, .i32⟩
  | .hbm, ⟨17, _⟩ => ⟨S_, .i32⟩
  | .hbm, ⟨18, _⟩ => ⟨S16x512, .i32⟩
  | .hbm, ⟨19, _⟩ => ⟨S_, .i32⟩
  | .hbm, ⟨20, _⟩ => ⟨S8x1024, .i32⟩
  | .hbm, ⟨21, _⟩ => ⟨S_, .i32⟩
  | .hbm, ⟨22, _⟩ => ⟨S8x1024, .i32⟩
  | .hbm, ⟨23, _⟩ => ⟨S_, .i32⟩
  | .hbm, ⟨24, _⟩ => ⟨S_, .f32⟩
  | .hbm, ⟨25, _⟩ => ⟨S16x128, .f32⟩
  | .hbm, ⟨26, _⟩ => ⟨S16x32, .f32⟩
  | .hbm, ⟨27, _⟩ => ⟨S_, .i32⟩
  | .hbm, ⟨28, _⟩ => ⟨S1, .i32⟩
  | .hbm, ⟨29, _⟩ => ⟨S16x128, .f32⟩
  | .hbm, ⟨30, _⟩ => ⟨S1x8192, .i32⟩
  | .hbm, ⟨31, _⟩ => ⟨S8192x1, .i32⟩
  | .hbm, ⟨32, _⟩ => ⟨S8192x8192, .i8⟩
  | .hbm, ⟨33, _⟩ => ⟨S1x8, .i32⟩
  | .hbm, ⟨34, _⟩ => ⟨S16x1, .i32⟩
  | .hbm, ⟨35, _⟩ => ⟨S16x8, .i32⟩
  | .hbm, ⟨36, _⟩ => ⟨S16x8, .i32⟩
  | .hbm, ⟨37, _⟩ => ⟨S16x8, .i32⟩
  | .hbm, ⟨38, _⟩ => ⟨S_, .i32⟩
  | .hbm, ⟨39, _⟩ => ⟨S16x8, .i32⟩
  | .hbm, ⟨40, _⟩ => ⟨S16x8, .i1⟩
  | .hbm, ⟨41, _⟩ => ⟨S1x8, .i32⟩
  | .hbm, ⟨42, _⟩ => ⟨S16x1, .i32⟩
  | .hbm, ⟨43, _⟩ => ⟨S16x8, .i32⟩
  | .hbm, ⟨44, _⟩ => ⟨S16x8, .i32⟩
  | .hbm, ⟨45, _⟩ => ⟨S16x8, .i32⟩
  | .hbm, ⟨46, _⟩ => ⟨S_, .i32⟩
  | .hbm, ⟨47, _⟩ => ⟨S16x8, .i32⟩
  | .hbm, ⟨48, _⟩ => ⟨S16x8, .i1⟩
  | .hbm, ⟨49, _⟩ => ⟨S16x8, .i1⟩
  | .hbm, ⟨50, _⟩ => ⟨S16x8, .i1⟩
  | .hbm, ⟨51, _⟩ => ⟨S9, .i32⟩
  | .hbm, ⟨52, _⟩ => ⟨S_, .i32⟩
  | .hbm, ⟨53, _⟩ => ⟨S9, .i32⟩
  | .hbm, ⟨54, _⟩ => ⟨S9, .i32⟩
  | .hbm, ⟨55, _⟩ => ⟨S_, .i32⟩
  | .hbm, ⟨56, _⟩ => ⟨S9, .i32⟩
  | .hbm, ⟨57, _⟩ => ⟨S9, .i1⟩
  | .hbm, ⟨58, _⟩ => ⟨S_, .i32⟩
  | .hbm, ⟨59, _⟩ => ⟨S9, .i32⟩
  | .hbm, ⟨60, _⟩ => ⟨S9, .i32⟩
  | .hbm, ⟨61, _⟩ => ⟨S9, .i32⟩
  | .hbm, ⟨62, _⟩ => ⟨S9x1, .i32⟩
  | .hbm, ⟨63, _⟩ => ⟨S16x9, .i1⟩
  | .hbm, ⟨64, _⟩ => ⟨S1x9, .i32⟩
  | .hbm, ⟨65, _⟩ => ⟨S_, .i32⟩
  | .hbm, ⟨66, _⟩ => ⟨S_, .i32⟩
  | .hbm, ⟨67, _⟩ => ⟨S16x9, .i32⟩
  | .hbm, ⟨68, _⟩ => ⟨S16x9, .i32⟩
  | .hbm, ⟨69, _⟩ => ⟨S16x9, .i32⟩
  | .hbm, ⟨70, _⟩ => ⟨S_, .i32⟩
  | .hbm, ⟨71, _⟩ => ⟨S_, .i32⟩
  | .hbm, ⟨72, _⟩ => ⟨S16x9, .i32⟩
  | .hbm, ⟨73, _⟩ => ⟨S16x8, .i32⟩
  | .hbm, ⟨74, _⟩ => ⟨S_, .i1⟩
  | .hbm, ⟨75, _⟩ => ⟨S_, .i32⟩
  | .hbm, ⟨76, _⟩ => ⟨S16, .i1⟩
  | .hbm, ⟨77, _⟩ => ⟨S16, .i32⟩
  | .hbm, ⟨78, _⟩ => ⟨S_, .i32⟩
  | .hbm, ⟨79, _⟩ => ⟨S16x9, .i32⟩
  | .hbm, ⟨80, _⟩ => ⟨S16x9, .i1⟩
  | .hbm, ⟨81, _⟩ => ⟨S16x1, .i32⟩
  | .hbm, ⟨82, _⟩ => ⟨S16x9, .i32⟩
  | .hbm, ⟨83, _⟩ => ⟨S16x9, .i32⟩
  | .hbm, ⟨84, _⟩ => ⟨S_, .f32⟩
  | .hbm, ⟨85, _⟩ => ⟨S8x256, .f32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S2, .i32⟩
  | .hbm, ⟨91, _⟩ => ⟨S8x256, .f32⟩
  | .hbm, ⟨92, _⟩ => ⟨S_, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S2, .i32⟩
  | .hbm, ⟨97, _⟩ => ⟨S8x256, .f32⟩
  | .hbm, ⟨98, _⟩ => ⟨S_, .i32⟩
  | .hbm, ⟨99, _⟩ => ⟨S1, .i32⟩
  | .hbm, ⟨100, _⟩ => ⟨S_, .i32⟩
  | .hbm, ⟨101, _⟩ => ⟨S1, .i32⟩
  | .hbm, ⟨102, _⟩ => ⟨S2, .i32⟩
  | .hbm, ⟨103, _⟩ => ⟨S8x256, .f32⟩
  | .hbm, ⟨104, _⟩ => ⟨S_, .i32⟩
  | .hbm, ⟨105, _⟩ => ⟨S1, .i32⟩
  | .hbm, ⟨106, _⟩ => ⟨S_, .i32⟩
  | .hbm, ⟨107, _⟩ => ⟨S1, .i32⟩
  | .hbm, ⟨108, _⟩ => ⟨S2, .i32⟩
  | .hbm, ⟨109, _⟩ => ⟨S8x256, .f32⟩
  | .hbm, ⟨110, _⟩ => ⟨S_, .i32⟩
  | .hbm, ⟨111, _⟩ => ⟨S1, .i32⟩
  | .hbm, ⟨112, _⟩ => ⟨S8x256, .f32⟩
  | .hbm, ⟨113, _⟩ => ⟨S8192x4096, .bf16⟩
  | .local _ .vmem, ⟨0, _⟩ => ⟨S1x512, .i32⟩
  | .local _ .vmem, ⟨1, _⟩ => ⟨S1x512, .i32⟩
  | .local _ .vmem, ⟨2, _⟩ => ⟨S1024x1, .i32⟩
  | .local _ .vmem, ⟨3, _⟩ => ⟨S1024x1, .i32⟩
  | .local _ .vmem, ⟨4, _⟩ => ⟨S1024x512, .i8⟩
  | .local _ .vmem, ⟨5, _⟩ => ⟨S1024x512, .i8⟩
  | .local _ .vmem, ⟨6, _⟩ => ⟨S16x128, .f32⟩
  | .local _ .vmem, ⟨7, _⟩ => ⟨S1024x512, .i8⟩
  | .local _ .vmem, ⟨8, _⟩ => ⟨S1024x512, .i8⟩
  | .local _ .vmem, ⟨9, _⟩ => ⟨S8x256, .f32⟩
  | .local _ .vmem, ⟨10, _⟩ => ⟨S256x512, .bf16⟩
  | .local _ .vmem, ⟨11, _⟩ => ⟨S256x512, .bf16⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S256x1024, .bf16⟩
  | .local _ .vmem, ⟨16, _⟩ => ⟨S512x256, .bf16⟩
  | .local _ .vmem, ⟨17, _⟩ => ⟨S512x256, .bf16⟩
  | .local _ .vmem, ⟨18, _⟩ => ⟨S1x512, .f32⟩
  | .local _ .vmem, ⟨19, _⟩ => ⟨S1x512, .f32⟩
  | .local _ .vmem, ⟨20, _⟩ => ⟨S256x512, .f32⟩
  | .local _ .vmem, ⟨21, _⟩ => ⟨S1x512, .f32⟩
  | .local _ .vmem, ⟨22, _⟩ => ⟨S1x512, .f32⟩
  | .local _ .vmem, ⟨23, _⟩ => ⟨S256x512, .f32⟩
  | .local _ .vmem, ⟨24, _⟩ => ⟨S1024x512, .f32⟩
  | .local _ .vmem, ⟨25, _⟩ => ⟨S1024x512, .f32⟩
  | .local _ .vmem, ⟨26, _⟩ => ⟨S1x512, .f32⟩
  | .local _ .vmem, ⟨27, _⟩ => ⟨S1x512, .f32⟩
  | .local _ .vmem, ⟨28, _⟩ => ⟨S1024x512, .f32⟩
  | .local _ .vmem, ⟨29, _⟩ => ⟨S1024x512, .f32⟩
  | .local _ .vmem, ⟨30, _⟩ => ⟨S1x512, .f32⟩
  | .local _ .vmem, ⟨31, _⟩ => ⟨S1x512, .f32⟩
  | .local _ .smem, ⟨0, _⟩ => ⟨S16, .i32⟩
  | .local _ .smem, ⟨1, _⟩ => ⟨S16, .i32⟩
  | .local _ .smem, ⟨2, _⟩ => ⟨S8, .i32⟩
  | .local _ .smem, ⟨3, _⟩ => ⟨S8, .i32⟩
  | .local _ .smem, ⟨4, _⟩ => ⟨S144, .i32⟩
  | .local _ .smem, ⟨5, _⟩ => ⟨S32x16, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨5, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v8 : Ref sig .tc := ⟨.hbm, 18, rfl⟩
abbrev main_c_0 : Ref sig .tc := ⟨.hbm, 19, rfl⟩
abbrev main_v10 : Ref sig .tc := ⟨.hbm, 20, rfl⟩
abbrev main_c_1 : Ref sig .tc := ⟨.hbm, 21, rfl⟩
abbrev main_v12 : Ref sig .tc := ⟨.hbm, 22, rfl⟩
abbrev main_c_2 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v48 : Ref sig .tc := ⟨.hbm, 69, rfl⟩
abbrev main_call1_c : Ref sig .tc := ⟨.hbm, 70, rfl⟩
abbrev main_call1_v0 : Ref sig .tc := ⟨.hbm, 71, rfl⟩
abbrev main_v49 : Ref sig .tc := ⟨.hbm, 72, rfl⟩
abbrev main_call2_v0 : Ref sig .tc := ⟨.hbm, 73, rfl⟩
abbrev main_call2_c : Ref sig .tc := ⟨.hbm, 74, rfl⟩
abbrev main_call2_c_0 : Ref sig .tc := ⟨.hbm, 75, rfl⟩
abbrev main_call2_v1_0 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_v0 : Ref sig .tc := ⟨.hbm, 82, rfl⟩
abbrev main_v54 : Ref sig .tc := ⟨.hbm, 83, rfl⟩
abbrev main_cst_11 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_c_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_c_15 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_16 : Ref sig .tc := ⟨.hbm, 98, rfl⟩
abbrev main_v65 : Ref sig .tc := ⟨.hbm, 99, rfl⟩
abbrev main_c_17 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_18 : Ref sig .tc := ⟨.hbm, 104, rfl⟩
abbrev main_v69 : Ref sig .tc := ⟨.hbm, 105, rfl⟩
abbrev main_c_19 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_20 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v7 : Ref sig .tc := ⟨.smem, 0, rfl⟩
abbrev main_v9 : Ref sig .tc := ⟨.smem, 1, rfl⟩
abbrev main_v11 : Ref sig .tc := ⟨.smem, 2, rfl⟩
abbrev main_v13 : Ref sig .tc := ⟨.smem, 3, rfl⟩
abbrev main_v55 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc1_scratch4 : Ref sig .tc := ⟨.vmem, 22, rfl⟩
abbrev cc1_scratch5 : Ref sig .tc := ⟨.vmem, 23, rfl⟩
abbrev cc1_scratch6 : Ref sig .tc := ⟨.vmem, 24, rfl⟩
abbrev cc1_scratch7 : Ref sig .tc := ⟨.vmem, 25, rfl⟩
abbrev cc1_scratch8 : Ref sig .tc := ⟨.vmem, 26, rfl⟩
abbrev cc1_scratch9 : Ref sig .tc := ⟨.vmem, 27, rfl⟩
abbrev cc1_scratch10 : Ref sig .tc := ⟨.vmem, 28, rfl⟩
abbrev cc1_scratch11 : Ref sig .tc := ⟨.vmem, 29, rfl⟩
abbrev cc1_scratch12 : Ref sig .tc := ⟨.vmem, 30, rfl⟩
abbrev cc1_scratch13 : Ref sig .tc := ⟨.vmem, 31, rfl⟩
abbrev cc1_stg0_0 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨2, ![8, 16], ![false, false]⟩

abbrev pre0 : Pipeline.Prefetch sig := ⟨4, ![main_v7.idx, main_v9.idx, main_v11.idx, main_v13.idx], fun | 0 => main_v7.names | 1 => main_v9.names | 2 => main_v11.names | 3 => main_v13.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg1 : BitVec 32 := BitVec.ofNat 32 (i 1).val
  let v2 : Index := Scalar.indexCast arg1
  ![v2.toNat]
def k0_cond1 (v1 : BitVec 32) (v3 : BitVec 32) (v7 : BitVec 32) (v9 : BitVec 32) : BitVec 1 :=
  let v4 : BitVec 32 := Scalar.subi v1 v3
  let c128_i32 : BitVec 32 := 128#32
  let v5 : BitVec 1 := Scalar.cmpi .sge v4 c128_i32
  let v10 : BitVec 32 := Scalar.subi v7 v9
  let c_m128_i32 : BitVec 32 := 4294967168#32
  let v11 : BitVec 1 := Scalar.cmpi .sle v10 c_m128_i32
  let v12 : BitVec 1 := Scalar.ori v5 v11
  let v13 : BitVec 32 := Scalar.extui v12
  let c0_i32 : BitVec 32 := 0#32
  let v14 : BitVec 1 := Scalar.cmpi .ne v13 c0_i32
  v14

def k0_cond2 (v1 : BitVec 32) (v3 : BitVec 32) (v7 : BitVec 32) (v9 : BitVec 32) : BitVec 1 :=
  let v4 : BitVec 32 := Scalar.subi v1 v3
  let c128_i32 : BitVec 32 := 128#32
  let v5 : BitVec 1 := Scalar.cmpi .sge v4 c128_i32
  let v10 : BitVec 32 := Scalar.subi v7 v9
  let c_m128_i32 : BitVec 32 := 4294967168#32
  let v11 : BitVec 1 := Scalar.cmpi .sle v10 c_m128_i32
  let v12 : BitVec 1 := Scalar.ori v5 v11
  let v_true : BitVec 1 := 1#1
  let v15 : BitVec 1 := Scalar.xori v12 v_true
  let v16 : BitVec 32 := Scalar.extui v15
  let c0_i32_0 : BitVec 32 := 0#32
  let v17 : BitVec 1 := Scalar.cmpi .ne v16 c0_i32_0
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![16, 16, 9], ![false, false, false]⟩

abbrev pre1 : Pipeline.Prefetch sig := ⟨5, ![main_v7.idx, main_v9.idx, main_v11.idx, main_v13.idx, main_v55.idx], fun | 0 => main_v7.names | 1 => main_v9.names | 2 => main_v11.names | 3 => main_v13.names | 4 => main_v55.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k1_off1 (i : grid1.Coords) : Fin 1 → Nat :=
  let arg1 : BitVec 32 := BitVec.ofNat 32 (i 1).val
  let c9_i32 : BitVec 32 := 9#32
  let v0 : BitVec 32 := Scalar.muli arg1 c9_i32
  let arg2 : BitVec 32 := BitVec.ofNat 32 (i 2).val
  let v1 : BitVec 32 := Scalar.addi v0 arg2
  let v2 : Index := Scalar.indexCast v1
  ![v2.toNat]
def k1_off2 (i : grid1.Coords) : Fin 1 → Nat :=
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let v2 : Index := Scalar.indexCast v1
  ![v2.toNat]
def k1_off3 (i : grid1.Coords) : Fin 1 → Nat :=
  let arg1 : BitVec 32 := BitVec.ofNat 32 (i 1).val
  let v4 : Index := Scalar.indexCast arg1
  ![v4.toNat]
def k1_off4 (i : grid1.Coords) : Fin 1 → Nat :=
  let arg2 : BitVec 32 := BitVec.ofNat 32 (i 2).val
  let c7_i32 : BitVec 32 := 7#32
  let v15 : BitVec 32 := Scalar.minsi arg2 c7_i32
  let v16 : Index := Scalar.indexCast v15
  ![v16.toNat]
def k1_off5 (i : grid1.Coords) : Fin 2 → Nat :=
  let arg0 : BitVec 32 := BitVec.ofNat 32 (i 0).val
  let v104 : Index := Scalar.indexCast arg0
  let c0_42 : Index := 0#32
  ![v104.toNat, 0]
def k1_off6 (i : grid1.Coords) : Fin 2 → Nat :=
  let c31 : Index := 31#32
  let arg0 : BitVec 32 := BitVec.ofNat 32 (i 0).val
  let v106 : Index := Scalar.indexCast arg0
  ![31, v106.toNat]
def k1_off7 (i : grid1.Coords) : Fin 2 → Nat :=
  let c15 : Index := 15#32
  let arg0 : BitVec 32 := BitVec.ofNat 32 (i 0).val
  let v108 : Index := Scalar.indexCast arg0
  ![15, v108.toNat]
def k1_off8 (i : grid1.Coords) : Fin 2 → Nat :=
  let arg0 : BitVec 32 := BitVec.ofNat 32 (i 0).val
  let v80 : Index := Scalar.indexCast arg0
  let c0 : Index := 0#32
  ![v80.toNat, 0]
def k1_off9 (i : grid1.Coords) : Fin 2 → Nat :=
  let c31 : Index := 31#32
  let arg0 : BitVec 32 := BitVec.ofNat 32 (i 0).val
  let v160 : Index := Scalar.indexCast arg0
  ![31, v160.toNat]
def k1_off10 (i : grid1.Coords) : Fin 2 → Nat :=
  let c15 : Index := 15#32
  let arg0 : BitVec 32 := BitVec.ofNat 32 (i 0).val
  let v162 : Index := Scalar.indexCast arg0
  ![15, v162.toNat]
def k1_off11 (i : grid1.Coords) : Fin 2 → Nat :=
  let c31 : Index := 31#32
  let arg0 : BitVec 32 := BitVec.ofNat 32 (i 0).val
  let v106 : Index := Scalar.indexCast arg0
  ![31, v106.toNat]
def k1_off12 (i : grid1.Coords) : Fin 2 → Nat :=
  let c15 : Index := 15#32
  let arg0 : BitVec 32 := BitVec.ofNat 32 (i 0).val
  let v108 : Index := Scalar.indexCast arg0
  ![15, v108.toNat]
def k1_off13 (i : grid1.Coords) : Fin 2 → Nat :=
  let arg0 : BitVec 32 := BitVec.ofNat 32 (i 0).val
  let v80 : Index := Scalar.indexCast arg0
  let c0 : Index := 0#32
  ![v80.toNat, 0]
def k1_off14 (i : grid1.Coords) : Fin 2 → Nat :=
  let c31 : Index := 31#32
  let arg0 : BitVec 32 := BitVec.ofNat 32 (i 0).val
  let v160 : Index := Scalar.indexCast arg0
  ![31, v160.toNat]
def k1_off15 (i : grid1.Coords) : Fin 2 → Nat :=
  let c15 : Index := 15#32
  let arg0 : BitVec 32 := BitVec.ofNat 32 (i 0).val
  let v162 : Index := Scalar.indexCast arg0
  ![15, v162.toNat]
def k1_cond7 (i : grid1.Coords) : BitVec 1 :=
  let arg2 : BitVec 32 := BitVec.ofNat 32 (i 2).val
  let c8_i32_24 : BitVec 32 := 8#32
  let v77 : BitVec 1 := Scalar.cmpi .eq arg2 c8_i32_24
  let v78 : BitVec 32 := Scalar.extui v77
  let c0_i32_25 : BitVec 32 := 0#32
  let v79 : BitVec 1 := Scalar.cmpi .ne v78 c0_i32_25
  v79

def k1_off16 (i : grid1.Coords) : Fin 2 → Nat :=
  let c31 : Index := 31#32
  let arg0 : BitVec 32 := BitVec.ofNat 32 (i 0).val
  let v80 : Index := Scalar.indexCast arg0
  ![31, v80.toNat]
def k1_off17 (i : grid1.Coords) : Fin 2 → Nat :=
  let c15 : Index := 15#32
  let arg0 : BitVec 32 := BitVec.ofNat 32 (i 0).val
  let v82 : Index := Scalar.indexCast arg0
  ![15, v82.toNat]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (k1_off1_inb : ∀ i : grid1.Coords, ∀ a, (k1_off1 i) a + S1.size a ≤ S144.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let v1 : BitVec 32 := Scalar.addi v0 arg2
  let v2 : Index := Scalar.indexCast v1
  let v3 : BitVec 32 := pf.at 4 (Rect.unit (s := S144) ![v2.toNat] S1.size (k1_off1_inb i)) numel1_S1
  let c0_i32 : BitVec 32 := 0#32
  ![v3.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  ![v0.toNat, arg0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 1 → Memref sig .tc .smem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1024x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 1 → Memref sig .tc .vmem S8x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, true]

abbrev stage1_7 : Fin 2 → Memref sig .tc .vmem S512x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]
-- ==== KernelIdeal.lean ====
variable {F : FTy → Type} [FloatOps F] [Named F]
def κ : String → Option EReal := fun
  | "log2e" => some (((Real.log 2)⁻¹ : ℝ) : EReal)
  | "scale_log2" => some (((Real.sqrt 128)⁻¹ * (Real.log 2)⁻¹ : ℝ) : EReal)
  | _ => none
-- ==== ReferenceIdeal.lean ====
abbrev S4096x8192 : Shape := ⟨2, ![4096, 8192]⟩
abbrev S8192x4096 : Shape := ⟨2, ![8192, 4096]⟩
abbrev S1x8192 : Shape := ⟨2, ![1, 8192]⟩
abbrev S32x16 : Shape := ⟨2, ![32, 16]⟩
abbrev S1x128 : Shape := ⟨2, ![1, 128]⟩
abbrev S1x256 : Shape := ⟨2, ![1, 256]⟩
abbrev S16x2x128x8192 : Shape := ⟨4, ![16, 2, 128, 8192]⟩
abbrev S16x2x8192x128 : Shape := ⟨4, ![16, 2, 8192, 128]⟩
abbrev S8192x16x2x128 : Shape := ⟨4, ![8192, 16, 2, 128]⟩
abbrev S16x256x8192 : Shape := ⟨3, ![16, 256, 8192]⟩
abbrev S16x8192x256 : Shape := ⟨3, ![16, 8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S8192x8192x1 : Shape := ⟨3, ![8192, 8192, 1]⟩
abbrev S8192x8192x16 : Shape := ⟨3, ![8192, 8192, 16]⟩
abbrev S16x8192x8192 : Shape := ⟨3, ![16, 8192, 8192]⟩
abbrev S16x1x8192x128 : Shape := ⟨4, ![16, 1, 8192, 128]⟩
abbrev S16x8192x128 : Shape := ⟨3, ![16, 8192, 128]⟩
abbrev S128 : Shape := ⟨1, ![128]⟩
abbrev S16x8192 : Shape := ⟨2, ![16, 8192]⟩
abbrev S16x8192x1 : Shape := ⟨3, ![16, 8192, 1]⟩
abbrev S256 : Shape := ⟨1, ![256]⟩
abbrev S1x1x256 : Shape := ⟨3, ![1, 1, 256]⟩
abbrev S8192x16x256 : Shape := ⟨3, ![8192, 16, 256]⟩

abbrev nBuf : Space → Nat
  | .hbm => 158
  | .vmem => 0
  | .smem => 0
  | _ => 0

abbrev hbmTy0_0 (i : Nat) : BufTy := match i % 128 with
  | 0 => ⟨S4096x8192, .bf16⟩
  | 1 => ⟨S8192x4096, .bf16⟩
  | 2 => ⟨S4096x8192, .bf16⟩
  | 3 => ⟨S1x8192, .i32⟩
  | 4 => ⟨S32x16, .f32⟩
  | 5 => ⟨S1x128, .f32⟩
  | 6 => ⟨S1x128, .f32⟩
  | 7 => ⟨S1x128, .f32⟩
  | 8 => ⟨S1x128, .f32⟩
  | 9 => ⟨S1x256, .f32⟩
  | 10 => ⟨S4096x8192, .f32⟩
  | 11 => ⟨S16x2x128x8192, .f32⟩
  | 12 => ⟨S16x2x8192x128, .f32⟩
  | 13 => ⟨S8192x4096, .f32⟩
  | 14 => ⟨S8192x16x2x128, .f32⟩
  | 15 => ⟨S16x2x8192x128, .f32⟩
  | 16 => ⟨S4096x8192, .f32⟩
  | 17 => ⟨S16x256x8192, .f32⟩
  | 18 => ⟨S16x8192x256, .f32⟩
  | 19 => ⟨S_, .f32⟩
  | 20 => ⟨S_, .f32⟩
  | 21 => ⟨S8192, .i32⟩
  | 22 => ⟨S1x8192, .i32⟩
  | 23 => ⟨S8192, .i32⟩
  | 24 => ⟨S8192x1, .i32⟩
  | 25 => ⟨S8192x8192, .i32⟩
  | 26 => ⟨S8192x8192, .i32⟩
  | 27 => ⟨S8192x8192, .i32⟩
  | 28 => ⟨S_, .i32⟩
  | 29 => ⟨S8192x8192, .i32⟩
  | 30 => ⟨S8192x8192, .i1⟩
  | 31 => ⟨S8192x8192, .i32⟩
  | 32 => ⟨S_, .i32⟩
  | 33 => ⟨S8192x8192, .i32⟩
  | 34 => ⟨S8192x8192, .i32⟩
  | 35 => ⟨S8192x8192, .i32⟩
  | 36 => ⟨S_, .i32⟩
  | 37 => ⟨S8192x8192, .i32⟩
  | 38 => ⟨S8192x8192, .i32⟩
  | 39 => ⟨S8192x8192, .f32⟩
  | 40 => ⟨S_, .f32⟩
  | 41 => ⟨S8192x8192, .f32⟩
  | 42 => ⟨S8192x8192, .f32⟩
  | 43 => ⟨S8192x8192, .f32⟩
  | 44 => ⟨S_, .f32⟩
  | 45 => ⟨S8192x8192, .f32⟩
  | 46 => ⟨S8192x8192, .f32⟩
  | 47 => ⟨S_, .f32⟩
  | 48 => ⟨S8192x8192, .f32⟩
  | 49 => ⟨S8192x8192, .f32⟩
  | 50 => ⟨S8192x8192, .i32⟩
  | 51 => ⟨S_, .i32⟩
  | 52 => ⟨S8192x8192, .i32⟩
  | 53 => ⟨S8192x8192, .i32⟩
  | 54 => ⟨S_, .i32⟩
  | 55 => ⟨S8192x8192, .i32⟩
  | 56 => ⟨S8192x8192, .i32⟩
  | 57 => ⟨S_, .i32⟩
  | 58 => ⟨S8192x8192, .i32⟩
  | 59 => ⟨S8192x8192, .i1⟩
  | 60 => ⟨S8192x8192, .i32⟩
  | 61 => ⟨S8192x8192, .i32⟩
  | 62 => ⟨S_, .i32⟩
  | 63 => ⟨S8192x8192, .i32⟩
  | 64 => ⟨S8192x8192, .i1⟩
  | 65 => ⟨S_, .i32⟩
  | 66 => ⟨S8192x8192, .i32⟩
  | 67 => ⟨S8192x8192, .i32⟩
  | 68 => ⟨S8192x8192, .i32⟩
  | 69 => ⟨S8192x8192x1, .i32⟩
  | 70 => ⟨S8192x8192x16, .f32⟩
  | 71 => ⟨S16x8192x8192, .f32⟩
  | 72 => ⟨S16x1x8192x128, .f32⟩
  | 73 => ⟨S16x8192x128, .f32⟩
  | 74 => ⟨S16x1x8192x128, .f32⟩
  | 75 => ⟨S16x8192x128, .f32⟩
  | 76 => ⟨S16x8192x8192, .f32⟩
  | 77 => ⟨S16x8192x8192, .f32⟩
  | 78 => ⟨S16x8192x8192, .f32⟩
  | 79 => ⟨S16x8192x8192, .f32⟩
  | 80 => ⟨S16x1x8192x128, .f32⟩
  | 81 => ⟨S16x8192x128, .f32⟩
  | 82 => ⟨S16x1x8192x128, .f32⟩
  | 83 => ⟨S16x8192x128, .f32⟩
  | 84 => ⟨S16x8192x8192, .f32⟩
  | 85 => ⟨S16x8192x8192, .f32⟩
  | 86 => ⟨S16x8192x8192, .f32⟩
  | 87 => ⟨S16x8192x8192, .f32⟩
  | 88 => ⟨S128, .f32⟩
  | 89 => ⟨S128, .f32⟩
  | 90 => ⟨S128, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S16x8192, .f32⟩
  | 105 => ⟨S_, .f32⟩
  | 106 => ⟨S16x8192, .f32⟩
  | 107 => ⟨S16x8192, .f32⟩
  | 108 => ⟨S16x8192x1, .f32⟩
  | 109 => ⟨S16x8192x8192, .f32⟩
  | 110 => ⟨S16x8192x8192, .f32⟩
  | 111 => ⟨S16x8192x8192, .f32⟩
  | 112 => ⟨S_, .f32⟩
  | 113 => ⟨S16x8192, .f32⟩
  | 114 => ⟨S16x8192x1, .f32⟩
  | 115 => ⟨S16x8192x8192, .f32⟩
  | 116 => ⟨S16x8192x8192, .f32⟩
  | 117 => ⟨S_, .f32⟩
  | 118 => ⟨S16x8192, .f32⟩
  | 119 => ⟨S_, .f32⟩
  | 120 => ⟨S16x8192, .f32⟩
  | 121 => ⟨S16x8192, .f32⟩
  | 122 => ⟨S16x8192x1, .f32⟩
  | 123 => ⟨S16x8192x8192, .f32⟩
  | 124 => ⟨S16x8192x8192, .f32⟩
  | 125 => ⟨S16x8192x8192, .f32⟩
  | 126 => ⟨S_, .f32⟩
  | 127 => ⟨S16x8192, .f32⟩
  | _ => ⟨S4096x8192, .bf16⟩

abbrev hbmTy0_1 (i : Nat) : BufTy := match i % 128 with
  | 0 => ⟨S16x8192x1, .f32⟩
  | 1 => ⟨S16x8192x8192, .f32⟩
  | 2 => ⟨S16x8192x8192, .f32⟩
  | 3 => ⟨S16x8192x8192, .f32⟩
  | 4 => ⟨S16x8192x8192, .f32⟩
  | 5 => ⟨S16x8192x8192, .f32⟩
  | 6 => ⟨S16x8192x256, .f32⟩
  | 7 => ⟨S256, .f32⟩
  | 8 => ⟨S16x8192x256, .f32⟩
  | 9 => ⟨S_, .f32⟩
  | 10 => ⟨S16x8192, .f32⟩
  | 11 => ⟨S16x8192x1, .f32⟩
  | 12 => ⟨S_, .f32⟩
  | 13 => ⟨S16x8192x1, .f32⟩
  | 14 => ⟨S16x8192x1, .f32⟩
  | 15 => ⟨S_, .f32⟩
  | 16 => ⟨S16x8192x1, .f32⟩
  | 17 => ⟨S16x8192x1, .f32⟩
  | 18 => ⟨S16x8192x1, .f32⟩
  | 19 => ⟨S16x8192x256, .f32⟩
  | 20 => ⟨S16x8192x256, .f32⟩
  | 21 => ⟨S1x1x256, .f32⟩
  | 22 => ⟨S16x8192x256, .f32⟩
  | 23 => ⟨S16x8192x256, .f32⟩
  | 24 => ⟨S_, .f32⟩
  | 25 => ⟨S16x8192x256, .f32⟩
  | 26 => ⟨S16x8192x256, .f32⟩
  | 27 => ⟨S8192x16x256, .f32⟩
  | 28 => ⟨S8192x4096, .f32⟩
  | 29 => ⟨S8192x4096, .bf16⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_15 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_19 : Ref sig .tc := ⟨.hbm, 137, rfl⟩
abbrev main_v106 : Ref sig .tc := ⟨.hbm, 138, rfl⟩
abbrev main_v107 : Ref sig .tc := ⟨.hbm, 139, rfl⟩
abbrev main_cst_20 : Ref sig .tc := ⟨.hbm, 140, rfl⟩
abbrev main_v108 : Ref sig .tc := ⟨.hbm, 141, rfl⟩
abbrev main_v109 : Ref sig .tc := ⟨.hbm, 142, rfl⟩
abbrev main_cst_21 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_22 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩

abbrev nD : Nat := 1
abbrev τ : Topo := Topo.v7x

variable {F : FTy → Type} [FloatOps F]
-- ==== Kernel2.lean ====
abbrev S8192x4096 : Shape := ⟨2, ![8192, 4096]⟩
abbrev S4096x16384 : Shape := ⟨2, ![4096, 16384]⟩
abbrev S8192x16384 : Shape := ⟨2, ![8192, 16384]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x16384, .bf16⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .bf16⟩
  | .local _ .vmem, ⟨4, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S4096x16384 : Shape := ⟨2, ![4096, 16384]⟩
abbrev S8192x16384 : Shape := ⟨2, ![8192, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S_, .f32⟩
  | .hbm, ⟨5, _⟩ => ⟨S8192x16384, .f32⟩
  | .hbm, ⟨6, _⟩ => ⟨S8192x16384, .f32⟩
  | .hbm, ⟨7, _⟩ => ⟨S8192x16384, .f32⟩
  | .hbm, ⟨8, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S8192x16384 : Shape := ⟨2, ![8192, 16384]⟩
abbrev S16384x4096 : Shape := ⟨2, ![16384, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .f32⟩
  | .hbm, ⟨2, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x16384 : Shape := ⟨2, ![8192, 16384]⟩
abbrev S16384x4096 : Shape := ⟨2, ![16384, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .f32⟩
  | .hbm, ⟨2, _⟩ => ⟨S8192x16384, .f32⟩
  | .hbm, ⟨3, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S8192x4096 : Shape := ⟨2, ![8192, 4096]⟩
abbrev S4096x28672 : Shape := ⟨2, ![4096, 28672]⟩
abbrev S4096x8192 : Shape := ⟨2, ![4096, 8192]⟩
abbrev S2048x4096 : Shape := ⟨2, ![2048, 4096]⟩
abbrev S4096x512 : Shape := ⟨2, ![4096, 512]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S4096x8192, .bf16⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S512x2048, .bf16⟩
  | .local _ .vmem, ⟨4, _⟩ => ⟨S512x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S4096x28672 : Shape := ⟨2, ![4096, 28672]⟩
abbrev S8192x28672 : Shape := ⟨2, ![8192, 28672]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S8192x4096, .f32⟩
  | .hbm, ⟨3, _⟩ => ⟨S8192x28672, .f32⟩
  | .hbm, ⟨4, _⟩ => ⟨S8192x4096, .f32⟩
  | .hbm, ⟨5, _⟩ => ⟨S8192x4096, .bf16⟩
  | .hbm, ⟨6, _⟩ => ⟨S4096x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S8192x4096 : Shape := ⟨2, ![8192, 4096]⟩
abbrev S4096x28672 : Shape := ⟨2, ![4096, 28672]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S8192x4096, .bf16⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .bf16⟩
  | .local _ .vmem, ⟨4, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S4096x28672 : Shape := ⟨2, ![4096, 28672]⟩
abbrev S8192x28672 : Shape := ⟨2, ![8192, 28672]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S8192x4096, .f32⟩
  | .hbm, ⟨3, _⟩ => ⟨S8192x28672, .f32⟩
  | .hbm, ⟨4, _⟩ => ⟨S8192x4096, .f32⟩
  | .hbm, ⟨5, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x4096 : Shape := ⟨2, ![8192, 4096]⟩
abbrev S4096x28672 : Shape := ⟨2, ![4096, 28672]⟩
abbrev S4096x8192 : Shape := ⟨2, ![4096, 8192]⟩
abbrev S2048x4096 : Shape := ⟨2, ![2048, 4096]⟩
abbrev S4096x512 : Shape := ⟨2, ![4096, 512]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S4096x8192, .bf16⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S512x2048, .bf16⟩
  | .local _ .vmem, ⟨4, _⟩ => ⟨S512x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x4096 : Shape := ⟨2, ![8192, 4096]⟩
abbrev S4096x28672 : Shape := ⟨2, ![4096, 28672]⟩
abbrev S8192x28672 : Shape := ⟨2, ![8192, 28672]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S8192x4096, .f32⟩
  | .hbm, ⟨3, _⟩ => ⟨S8192x28672, .f32⟩
  | .hbm, ⟨4, _⟩ => ⟨S8192x4096, .f32⟩
  | .hbm, ⟨5, _⟩ => ⟨S8192x4096, .bf16⟩
  | .hbm, ⟨6, _⟩ => ⟨S4096x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8192x4096 : Shape := ⟨2, ![8192, 4096]⟩
abbrev S4096x28672 : Shape := ⟨2, ![4096, 28672]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S8192x4096, .f32⟩
  | .local _ .vmem, ⟨0, _⟩ => ⟨S2048x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S2048x256, .f32⟩
  | .local _ .vmem, ⟨6, _⟩ => ⟨S2048x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi arg1 c48_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x4096 : Shape := ⟨2, ![8192, 4096]⟩
abbrev S4096x28672 : Shape := ⟨2, ![4096, 28672]⟩
abbrev S8192x28672 : Shape := ⟨2, ![8192, 28672]⟩
abbrev S8192x8192 : Shape := ⟨2, ![8192, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S8192x4096, .f32⟩
  | .hbm, ⟨3, _⟩ => ⟨S8192x28672, .f32⟩
  | .hbm, ⟨4, _⟩ => ⟨S8192x8192, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel8.lean ====
abbrev S8192x4096 : Shape := ⟨2, ![8192, 4096]⟩
abbrev S4096x28672 : Shape := ⟨2, ![4096, 28672]⟩
abbrev S8192x8192 : Shape := ⟨2, ![8192, 8192]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S8192x8192, .f32⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .f32⟩
  | .local _ .vmem, ⟨4, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi arg1 c40_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x4096 : Shape := ⟨2, ![8192, 4096]⟩
abbrev S4096x28672 : Shape := ⟨2, ![4096, 28672]⟩
abbrev S8192x28672 : Shape := ⟨2, ![8192, 28672]⟩
abbrev S8192x8192 : Shape := ⟨2, ![8192, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x28672, .f32⟩
  | .hbm, ⟨2, _⟩ => ⟨S8192x4096, .f32⟩
  | .hbm, ⟨3, _⟩ => ⟨S8192x28672, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel9.lean ====
abbrev S8192x4096 : Shape := ⟨2, ![8192, 4096]⟩
abbrev S4096x4096 : Shape := ⟨2, ![4096, 4096]⟩
abbrev S8192x8192 : Shape := ⟨2, ![8192, 8192]⟩
abbrev S4096x256 : Shape := ⟨2, ![4096, 256]⟩
abbrev S1024x4096 : Shape := ⟨2, ![1024, 4096]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .bf16⟩
  | .hbm, ⟨3, _⟩ => ⟨S4096x4096, .f32⟩
  | .hbm, ⟨4, _⟩ => ⟨S8192x8192, .f32⟩
  | .hbm, ⟨5, _⟩ => ⟨S8192x4096, .bf16⟩
  | .local _ .vmem, ⟨0, _⟩ => ⟨S4096x256, .f32⟩
  | .local _ .vmem, ⟨1, _⟩ => ⟨S4096x256, .f32⟩
  | .local _ .vmem, ⟨2, _⟩ => ⟨S1024x4096, .bf16⟩
  | .local _ .vmem, ⟨3, _⟩ => ⟨S1024x4096, .bf16⟩
  | .local _ .vmem, ⟨4, _⟩ => ⟨S4096x256, .f32⟩
  | .local _ .vmem, ⟨5, _⟩ => ⟨S4096x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S8192x4096 : Shape := ⟨2, ![8192, 4096]⟩
abbrev S4096x4096 : Shape := ⟨2, ![4096, 4096]⟩
abbrev S8192x8192 : Shape := ⟨2, ![8192, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .bf16⟩
  | .hbm, ⟨3, _⟩ => ⟨S4096x4096, .f32⟩
  | .hbm, ⟨4, _⟩ => ⟨S8192x8192, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel10.lean ====
abbrev S8192x4096 : Shape := ⟨2, ![8192, 4096]⟩
abbrev S4096x4096 : Shape := ⟨2, ![4096, 4096]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .f32⟩
  | .local _ .vmem, ⟨4, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S8192x4096 : Shape := ⟨2, ![8192, 4096]⟩
abbrev S4096x4096 : Shape := ⟨2, ![4096, 4096]⟩
abbrev S8192x256 : Shape := ⟨2, ![8192, 256]⟩
abbrev S256x4096 : Shape := ⟨2, ![256, 4096]⟩
abbrev S4096x512 : Shape := ⟨2, ![4096, 512]⟩
abbrev S2048x4096 : Shape := ⟨2, ![2048, 4096]⟩
abbrev S2048x256 : Shape := ⟨2, ![2048, 256]⟩
abbrev S256x512 : Shape := ⟨2, ![256, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x256, .bf16⟩
  | .hbm, ⟨3, _⟩ => ⟨S256x4096, .f32⟩
  | .hbm, ⟨4, _⟩ => ⟨S8192x4096, .f32⟩
  | .local _ .vmem, ⟨0, _⟩ => ⟨S4096x512, .f32⟩
  | .local _ .vmem, ⟨1, _⟩ => ⟨S4096x512, .f32⟩
  | .local _ .vmem, ⟨2, _⟩ => ⟨S2048x4096, .bf16⟩
  | .local _ .vmem, ⟨3, _⟩ => ⟨S2048x256, .bf16⟩
  | .local _ .vmem, ⟨4, _⟩ => ⟨S256x512, .f32⟩
  | .local _ .vmem, ⟨5, _⟩ => ⟨S256x512, .f32⟩
  | .local _ .vmem, ⟨6, _⟩ => ⟨S2048x512, .f32⟩
  | .local _ .vmem, ⟨7, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x4096 : Shape := ⟨2, ![8192, 4096]⟩
abbrev S4096x4096 : Shape := ⟨2, ![4096, 4096]⟩
abbrev S8192x256 : Shape := ⟨2, ![8192, 256]⟩
abbrev S256x4096 : Shape := ⟨2, ![256, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x256, .bf16⟩
  | .hbm, ⟨3, _⟩ => ⟨S256x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x256, .f32⟩
  | .hbm, ⟨15, _⟩ => ⟨S8192x4096, .f32⟩
  | .hbm, ⟨16, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Run0.lean ====
module

public import proofs.«01_k».proof.Proof.Scr
public import Idealize.ShloMosaic.Lib.Tactic

@[expose] public section

set_option maxRecDepth 16384

noncomputable section

namespace Cert.Proof.K1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The bucket kernel: one of its two branches runs at every point -/

theorem nz_iff : ∀ v : BitVec 1, (nz v = 1#1 ↔ v = 1#1) ∧ (nz (Scalar.xori v 1#1) = 1#1 ↔ v = 0#1) := by decide

theorem live0 (v1 v3 v7 v9 : BitVec 32) : (!(k0_cond1 v1 v3 v7 v9 == 1#1) && !(k0_cond2 v1 v3 v7 v9 == 1#1)) = false := by
  have h : ∀ v : BitVec 1, (!(nz v == 1#1) && !(nz (Scalar.xori v 1#1) == 1#1)) = false := by decide
  exact h (far v1 v3 v7 v9)

variable (c : Dev nD) (i : grid0.Coords)
    (arg2 : Memref sig .tc .smem S16 .i32) (harg2 : arg2.IsWhole)
    (arg3 : Memref sig .tc .smem S16 .i32) (harg3 : arg3.IsWhole)
    (arg4 : Memref sig .tc .smem S8 .i32) (harg4 : arg4.IsWhole)
    (arg5 : Memref sig .tc .smem S8 .i32) (harg5 : arg5.IsWhole)
    (arg6 : Memref sig .tc .vmem S1x512 .i32) (harg6 : arg6.IsWhole)
    (arg7 : Memref sig .tc .vmem S1024x1 .i32) (harg7 : arg7.IsWhole)
    (arg8 : Memref sig .tc .vmem S1024x512 .i8) (harg8 : arg8.IsWhole)
    (f0 : Bf (F := F) c arg2) (f1 : Bf (F := F) c arg3) (f2 : Bf (F := F) c arg4) (f3 : Bf (F := F) c arg5)
    (X4 : Vec F S1x512 .i32) (X5 : Vec F S1024x1 .i32)

/-- Whether the tile of a point is far, as the bucket kernel reads it from the four tables. -/
abbrev cur0 : BitVec 1 :=
  far (wd c arg4 f2 (k0_off1 i) S1.size (k0_off1_inb i) (Shape.Idx.first (numel1_S1.symm ▸ Nat.one_pos)))
    (wd c arg3 f1 (k0_off2 i) S1.size (k0_off2_inb i) (Shape.Idx.first (numel1_S1.symm ▸ Nat.one_pos)))
    (wd c arg5 f3 (k0_off1 i) S1.size (k0_off1_inb i) (Shape.Idx.first (numel1_S1.symm ▸ Nat.one_pos)))
    (wd c arg2 f0 (k0_off2 i) S1.size (k0_off2_inb i) (Shape.Idx.first (numel1_S1.symm ▸ Nat.one_pos)))

/-- The buckets of a tile: all zero for a far one. -/
def tile0 : Vec F S1024x512 .i8 := if cur0 c i arg2 arg3 arg4 arg5 f0 f1 f2 f3 = 1#1 then k0_pay1 else k0_pay2 X5 X4

abbrev ins0 : sProp 𝕄 :=
  iprop(pt c arg2 f0 ∗ pt c arg3 f1 ∗ pt c arg4 f2 ∗ pt c arg5 f3 ∗ pt c arg6 (harg6.unread X4) ∗ pt c arg7 (harg7.unread X5))

/-- A far tile's point. -/
def runFar (hc : cur0 c i arg2 arg3 arg4 arg5 f0 f1 f2 f3 = 1#1) (f8 : Bf (F := F) c arg8) :
    { W : Bf (F := F) c arg8 // ∀ (E : Set ℕ) (Q : PUnit → sProp 𝕄),
      iprop(ins0 c arg2 arg3 arg4 arg5 arg6 harg6 arg7 harg7 f0 f1 f2 f3 X4 X5 ∗ pt c arg8 f8
        ∗ (iprop(ins0 c arg2 arg3 arg4 arg5 arg6 harg6 arg7 harg7 f0 f1 f2 f3 X4 X5 ∗ pt c arg8 W) -∗ Q ⟨⟩))
      ⊢ wp frame (wpE (defs₀ (F := F)) Variants.none c none) E
          (cc0_rel_buckets i arg2 harg2 arg3 harg3 arg4 harg4 arg5 harg5 arg6 harg6 arg7 harg7 arg8 harg8) Q } := by
  have k1 : nz (cur0 c i arg2 arg3 arg4 arg5 f0 f1 f2 f3) = 1#1 := (nz_iff _).1.mpr hc
  have k2 : ¬ nz (Scalar.xori (cur0 c i arg2 arg3 arg4 arg5 f0 f1 f2 f3) 1#1) = 1#1 := fun h =>
    absurd (((nz_iff _).2.mp h).symm.trans hc) (by decide)
  refine ⟨?_, fun E Q => ?run⟩
  case run =>
    iintro ⟨⟨H0, H1, H2, H3, H4, H5⟩, H6, Hk⟩
    sl_exec_parts (disch := first | sl_exact k1 | sl_exact k2)
    sl_step
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    iexact H6

/-- A near tile's point. -/
def runNear (hc : cur0 c i arg2 arg3 arg4 arg5 f0 f1 f2 f3 = 0#1) (f8 : Bf (F := F) c arg8) :
    { W : Bf (F := F) c arg8 // ∀ (E : Set ℕ) (Q : PUnit → sProp 𝕄),
      iprop(ins0 c arg2 arg3 arg4 arg5 arg6 harg6 arg7 harg7 f0 f1 f2 f3 X4 X5 ∗ pt c arg8 f8
        ∗ (iprop(ins0 c arg2 arg3 arg4 arg5 arg6 harg6 arg7 harg7 f0 f1 f2 f3 X4 X5 ∗ pt c arg8 W) -∗ Q ⟨⟩))
      ⊢ wp frame (wpE (defs₀ (F := F)) Variants.none c none) E
          (cc0_rel_buckets i arg2 harg2 arg3 harg3 arg4 harg4 arg5 harg5 arg6 harg6 arg7 harg7 arg8 harg8) Q } := by
  have k1 : ¬ nz (cur0 c i arg2 arg3 arg4 arg5 f0 f1 f2 f3) = 1#1 := fun h =>
    absurd (((nz_iff _).1.mp h).symm.trans hc) (by decide)
  have k2 : nz (Scalar.xori (cur0 c i arg2 arg3 arg4 arg5 f0 f1 f2 f3) 1#1) = 1#1 := (nz_iff _).2.mpr hc
  refine ⟨?_, fun E Q => ?run⟩
  case run =>
    iintro ⟨⟨H0, H1, H2, H3, H4, H5⟩, H6, Hk⟩
    sl_exec_parts (disch := first | sl_exact k1 | sl_exact k2)
    sl_step
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    iexact H6

theorem far_eq (hc : cur0 c i arg2 arg3 arg4 arg5 f0 f1 f2 f3 = 1#1) (f8 : Bf (F := F) c arg8) :
    arg8.view.read (Elt F) (runFar c i arg2 harg2 arg3 harg3 arg4 harg4 arg5 harg5 arg6 harg6 arg7 harg7 arg8 harg8 f0 f1 f2 f3 X4 X5 hc f8).1
      = tile0 c i arg2 arg3 arg4 arg5 f0 f1 f2 f3 X4 X5 := by
  unfold tile0
  rw [if_pos hc]
  unfold runFar
  dsimp only
  exact View.read_writes_full _ _ _ _ _

theorem near_eq (hc : cur0 c i arg2 arg3 arg4 arg5 f0 f1 f2 f3 = 0#1) (f8 : Bf (F := F) c arg8) :
    arg8.view.read (Elt F) (runNear c i arg2 harg2 arg3 harg3 arg4 harg4 arg5 harg5 arg6 harg6 arg7 harg7 arg8 harg8 f0 f1 f2 f3 X4 X5 hc f8).1
      = tile0 c i arg2 arg3 arg4 arg5 f0 f1 f2 f3 X4 X5 := by
  unfold tile0
  rw [if_neg (by rw [hc]; decide)]
  have q := congrArg₂ (k0_pay2 (F := F)) (rdFull harg7 X5 inb_S1024x1_S1024x1_0_0) (rdFull harg6 X4 inb_S1x512_S1x512_0_0)
  refine Eq.trans ?_ q
  unfold runNear
  dsimp only
  exact View.read_writes_full _ _ _ _ _

/-- One point of the bucket kernel. -/
theorem point0 (X8 : Vec F S1024x512 .i8) (E : Set ℕ) (Q : PUnit → sProp 𝕄) :
    iprop(ins0 c arg2 arg3 arg4 arg5 arg6 harg6 arg7 harg7 f0 f1 f2 f3 X4 X5 ∗ pt c arg8 (harg8.unread X8)
        ∗ (iprop(ins0 c arg2 arg3 arg4 arg5 arg6 harg6 arg7 harg7 f0 f1 f2 f3 X4 X5
            ∗ pt c arg8 (harg8.unread (tile0 c i arg2 arg3 arg4 arg5 f0 f1 f2 f3 X4 X5))) -∗ Q ⟨⟩))
      ⊢ wp frame (wpE (defs₀ (F := F)) Variants.none c none) E
          (cc0_rel_buckets i arg2 harg2 arg3 harg3 arg4 harg4 arg5 harg5 arg6 harg6 arg7 harg7 arg8 harg8) Q := by
  have hb : ∀ v : BitVec 1, v = 1#1 ∨ v = 0#1 := by decide
  rcases hb (cur0 c i arg2 arg3 arg4 arg5 f0 f1 f2 f3) with hc | hc
  · rw [← harg8.eq_unread (far_eq c i arg2 harg2 arg3 harg3 arg4 harg4 arg5 harg5 arg6 harg6 arg7 harg7 arg8 harg8 f0 f1 f2 f3 X4 X5 hc (harg8.unread X8))]
    exact (runFar c i arg2 harg2 arg3 harg3 arg4 harg4 arg5 harg5 arg6 harg6 arg7 harg7 arg8 harg8 f0 f1 f2 f3 X4 X5 hc _).2 E Q
  · rw [← harg8.eq_unread (near_eq c i arg2 harg2 arg3 harg3 arg4 harg4 arg5 harg5 arg6 harg6 arg7 harg7 arg8 harg8 f0 f1 f2 f3 X4 X5 hc (harg8.unread X8))]
    exact (runNear c i arg2 harg2 arg3 harg3 arg4 harg4 arg5 harg5 arg6 harg6 arg7 harg7 arg8 harg8 f0 f1 f2 f3 X4 X5 hc _).2 E Q

end Cert.Proof.K1

end
-- ==== Proof.Point.lean ====
module

public import proofs.«01_k».proof.Proof.Gen.Kernel.Launch
public import proofs.«01_k».proof.Proof.Gen.Kernel.Skeleton
public import proofs.«01_k».proof.Proof.Scr
public import proofs.«01_k».proof.Proof.EqS1
public import proofs.«01_k».proof.Proof.EqS0
public import proofs.«01_k».proof.Proof.EqE1
public import proofs.«01_k».proof.Proof.EqE0
public import proofs.«01_k».proof.Proof.EqO1
public import proofs.«01_k».proof.Proof.EqO0
public import proofs.«01_k».proof.Proof.EqF

@[expose] public section

set_option maxRecDepth 16384

noncomputable section

namespace Cert.Proof.K1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16)

set_option maxHeartbeats 0 in
/-- One grid point: the scratch memory steps, and the closing key step writes the block of the result. -/
theorem point (a : Acc F) (p : Pend F) (E : Set ℕ) (Q : PUnit → sProp 𝕄) :
    iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread X12) ∗ scr c arg16 harg16 arg17 harg17 arg18 harg18 arg19 harg19 arg20 harg20 arg21 harg21 arg22 harg22 arg23 harg23 arg24 harg24 arg25 harg25 arg26 harg26 arg27 harg27 arg28 harg28 arg29 harg29 (i 2).val a p
        ∗ (iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread (if (i 2).val = 8 then result X8 (stepAcc c i arg3 arg4 arg5 arg6 f0 f1 f2 f3 X5 X11 a p) else X12))
            ∗ scr c arg16 harg16 arg17 harg17 arg18 harg18 arg19 harg19 arg20 harg20 arg21 harg21 arg22 harg22 arg23 harg23 arg24 harg24 arg25 harg25 arg26 harg26 arg27 harg27 arg28 harg28 arg29 harg29 (((i 2).val + 1) % 9) (stepAcc c i arg3 arg4 arg5 arg6 f0 f1 f2 f3 X5 X11 a p) (stepPend c i arg3 arg4 arg5 arg6 f0 f1 f2 f3 X6 X7 X9 X10)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q := by
  have hi : (i 2).val < 9 := (i 2).isLt
  suffices h : ∀ (A0 : Acc F) (Pa Pb : Pend F), live (i 2).val a p A0 Pa Pb →
      iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread X12) ∗ (pt c arg16 (harg16.unread A0.m1) ∗ pt c arg17 (harg17.unread A0.l1) ∗ pt c arg18 (harg18.unread A0.a1) ∗ pt c arg19 (harg19.unread A0.m2) ∗ pt c arg20 (harg20.unread A0.l2) ∗ pt c arg21 (harg21.unread A0.a2) ∗ pt c arg22 (harg22.unread Pa.s1) ∗ pt c arg23 (harg23.unread Pa.s2) ∗ pt c arg24 (harg24.unread Pa.r1) ∗ pt c arg25 (harg25.unread Pa.r2) ∗ pt c arg26 (harg26.unread Pb.s1) ∗ pt c arg27 (harg27.unread Pb.s2) ∗ pt c arg28 (harg28.unread Pb.r1) ∗ pt c arg29 (harg29.unread Pb.r2))
        ∗ (iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread (if (i 2).val = 8 then result X8 (stepAcc c i arg3 arg4 arg5 arg6 f0 f1 f2 f3 X5 X11 a p) else X12))
            ∗ scr c arg16 harg16 arg17 harg17 arg18 harg18 arg19 harg19 arg20 harg20 arg21 harg21 arg22 harg22 arg23 harg23 arg24 harg24 arg25 harg25 arg26 harg26 arg27 harg27 arg28 harg28 arg29 harg29 (((i 2).val + 1) % 9) (stepAcc c i arg3 arg4 arg5 arg6 f0 f1 f2 f3 X5 X11 a p) (stepPend c i arg3 arg4 arg5 arg6 f0 f1 f2 f3 X6 X7 X9 X10)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q by
    iintro ⟨HI, HO, HS, Hk⟩
    unfold scr
    icases HS with ⟨%A0, %Pa, %Pb, %hl, HS⟩
    iapply (h A0 Pa Pb hl)
    isplitl [HI]; · iexact HI
    isplitl [HO]; · iexact HO
    isplitl [HS]; · iexact HS
    iexact Hk
  intro A0 Pa Pb hl
  obtain ⟨l1, l2, l3⟩ := hl
  have hcd : cur c i arg3 arg4 arg5 arg6 f0 f1 f2 f3 = 1#1 ∨ cur c i arg3 arg4 arg5 arg6 f0 f1 f2 f3 = 0#1 := by
    generalize cur c i arg3 arg4 arg5 arg6 f0 f1 f2 f3 = v
    revert v; decide
  unfold stepAcc stepPend
  by_cases h8 : (i 2).val = 8
  · have hj := h8
    obtain rfl := l1 (by omega)
    obtain rfl := l3 ⟨by omega, by omega⟩
    have e := eqF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj _ rfl
    refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.2.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.2.2.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.2.2.2.2) (harg22.unread Pa.s1) (harg23.unread Pa.s2) (harg24.unread Pa.r1) (harg25.unread Pa.r2) (harg26.unread Pb.s1) (harg27.unread Pb.s2) (harg28.unread Pb.r1) (harg29.unread Pb.r2) ?_ ⟨?_, ?_, ?_⟩ E Q ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).2 E Q)
    · rw [if_pos hj, if_neg (by omega)]; exact e.2
    · intro h; omega
    · intro h; omega
    · intro h; omega
  by_cases h0 : (i 2).val = 0
  · have hj := h0
    rcases hcd with hc | hc
    · have e := eqS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) (harg26.unread Pb.s1) (harg27.unread Pb.s2) (harg28.unread Pb.r1) (harg29.unread Pb.r2) ?_ ⟨?_, ?_, ?_⟩ E Q ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_pos hj]; exact e.1
      · intro _; rw [if_pos hc]; exact e.2
      · intro h; omega
    · have e := eqS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) (harg26.unread Pb.s1) (harg27.unread Pb.s2) (harg28.unread Pb.r1) (harg29.unread Pb.r2) ?_ ⟨?_, ?_, ?_⟩ E Q ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_pos hj]; exact e.1
      · intro _; rw [if_neg (by rw [hc]; decide)]; exact e.2
      · intro h; omega
  rcases Nat.mod_two_eq_zero_or_one (i 2).val with h2 | h2
  · have hj : 0 < (i 2).val ∧ (i 2).val < 8 ∧ (i 2).val % 2 = 0 := by omega
    rcases hcd with hc | hc
    · obtain rfl := l1 (by omega)
      obtain rfl := l3 ⟨by omega, by omega⟩
      have e := eqE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) (harg26.unread Pb.s1) (harg27.unread Pb.s2) (harg28.unread Pb.r1) (harg29.unread Pb.r2) ?_ ⟨?_, ?_, ?_⟩ E Q ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_neg (by omega)]; exact e.1
      · intro _; rw [if_pos hc]; exact e.2
      · intro h; omega
    · obtain rfl := l1 (by omega)
      obtain rfl := l3 ⟨by omega, by omega⟩
      have e := eqE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) (harg26.unread Pb.s1) (harg27.unread Pb.s2) (harg28.unread Pb.r1) (harg29.unread Pb.r2) ?_ ⟨?_, ?_, ?_⟩ E Q ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_neg (by omega)]; exact e.1
      · intro _; rw [if_neg (by rw [hc]; decide)]; exact e.2
      · intro h; omega
  · have hj : 0 < (i 2).val ∧ (i 2).val < 8 ∧ (i 2).val % 2 = 1 := by omega
    rcases hcd with hc | hc
    · obtain rfl := l1 (by omega)
      obtain rfl := l2 (by omega)
      have e := eqO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) (harg22.unread Pa.s1) (harg23.unread Pa.s2) (harg24.unread Pa.r1) (harg25.unread Pa.r2) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) ?_ ⟨?_, ?_, ?_⟩ E Q ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_neg (by omega)]; exact e.1
      · intro h; omega
      · intro _; rw [if_pos hc]; exact e.2
    · obtain rfl := l1 (by omega)
      obtain rfl := l2 (by omega)
      have e := eqO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) (harg22.unread Pa.s1) (harg23.unread Pa.s2) (harg24.unread Pa.r1) (harg25.unread Pa.r2) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) ?_ ⟨?_, ?_, ?_⟩ E Q ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_neg (by omega)]; exact e.1
      · intro h; omega
      · intro _; rw [if_neg (by rw [hc]; decide)]; exact e.2

end Cert.Proof.K1

end
-- ==== Proof.Segs.lean ====
module

public import proofs.«01_k».proof.Proof.Region0
public import proofs.«01_k».proof.Proof.Ends
public import proofs.«01_k».proof.Proof.Ok1
public import proofs.«01_k».proof.Proof.Gen.Kernel.Regions
public import Idealize.ShloMosaic.Lib.Pipeline.RegionArraysTS

@[expose] public section

set_option maxRecDepth 16384

noncomputable section

namespace Cert.Proof.K1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The regions as segments of the program -/

section Segments
variable (a0 : (pcfg0 (F := F)).Adm) (a1 : (pcfg1 (F := F)).Adm) (X0 X1 : Dev nD → Valuation τ sig (Elt F))

abbrev adms : (p : Fin 2) → (pcfgs (F := F) p).Adm
  | ⟨0, _⟩ => a0
  | ⟨1, _⟩ => a1

abbrev dats : (p : Fin 2) → (c : Dev nD) → Dat τ (Elt F) Unit ℕ (UR sig nD τ) ℕ (Pipeline.pin (pcfgs (F := F)) (adms a0 a1) p) c
  | ⟨0, _⟩ => dat0 a0 X0
  | ⟨1, _⟩ => dat1 a1 X1

/-- Every TensorCore cell carries the one round index, at level 0. -/
abbrev LL : GSem nD τ sig → Finset Unit := fun g => if g.1.2 = .tc then {()} else ∅
abbrev lvl : GSem nD τ sig → Unit → ℕ := fun _ _ => 0

set_option backward.isDefEq.respectTransparency false in
set_option backward.isDefEq.respectTransparency.types false in
/-- The bucket kernel's region. -/
def reg0 (hT : ∀ c k, a0.1 k = X0 c (Proc.devRef .tc (pre0.ref k))) : Pipeline.RegionSeg (pcfgs (F := F)) (adms a0 a1) (dats a0 a1 X0 X1) () defs₀ Variants.none LL lvl 0 :=
  Pipeline.RegionSeg.ofHeldInT (pcfgs (F := F)) (adms a0 a1) (dats a0 a1 X0 X1) () defs₀ Variants.none LL lvl 0 (fun _ => 0) (Pipeline.ucRefs τ sig)
    (fun _ => BI.emp) (fun _ => BI.emp) launch0 (fun c => (body0 a0 X0 c).loose) (fun _ _ => rfl) (fun _ => rfl)
    (fun c => (dats a0 a1 X0 X1 0 c).share_full fun _ => rfl)
    (fun c => by
      show iprop(iprop(Pipeline.scopedRest spec0 c ∗ BI.emp) ∗ Pipeline.prefHeld pre0 c (fun _ => fullShare) a0.1) ⊢ (iprop(Pipeline.scopedRest spec0 c ∗ Pipeline.prefHeld pre0 c (fun _ => fullShare) a0.1) : sProp 𝕄)
      iintro ⟨⟨Hs, -⟩, Ht⟩
      isplitl [Hs] <;> iassumption)
    (fun c => by
      show (iprop(Pipeline.scopedRest spec0 c ∗ Pipeline.prefHeld pre0 c (fun _ => fullShare) a0.1) : sProp 𝕄) ⊢ iprop(iprop(Pipeline.scopedRest spec0 c ∗ BI.emp) ∗ Pipeline.prefHeld pre0 c (fun _ => fullShare) a0.1)
      iintro ⟨Hs, Ht⟩
      isplitl [Hs]
      · isplitl; · iexact Hs
        iempintro
      iexact Ht)
    (fun _ => 0)
    { hι := fun c w s => by simp [LL]
      hιb := fun _ _ _ => le_refl _
      hD := fun _ _ _ h => absurd h (lt_irrefl _) }
    (fun _ => BI.emp) X0 (fun _ _ => rfl) hT

set_option backward.isDefEq.respectTransparency false in
set_option backward.isDefEq.respectTransparency.types false in
/-- The attention kernel's region. -/
def reg1 (hT : ∀ c k, a1.1 k = X1 c (Proc.devRef .tc (pre1.ref k))) : Pipeline.RegionSeg (pcfgs (F := F)) (adms a0 a1) (dats a0 a1 X0 X1) () defs₀ Variants.none LL lvl 1 :=
  Pipeline.RegionSeg.ofHeldInT (pcfgs (F := F)) (adms a0 a1) (dats a0 a1 X0 X1) () defs₀ Variants.none LL lvl 1 (fun _ => 0) (Pipeline.ucRefs τ sig)
    (fun _ => BI.emp) (fun _ => BI.emp) launch1 (fun c => (body1 a1 X1 c).loose) (fun _ _ => rfl) (fun _ => rfl)
    (fun c => (dats a0 a1 X0 X1 1 c).share_full fun _ => rfl)
    (fun c => enter1 a1 X1 c)
    (fun c => leave1 a1 X1 c _)
    (fun _ => 0)
    { hι := fun c w s => by simp [LL]
      hιb := fun _ _ _ => le_refl _
      hD := fun _ _ _ h => absurd h (lt_irrefl _) }
    (fun _ => BI.emp) X1 (fun _ _ => rfl) hT

/-- The bucket kernel's region writes its result buffer only. -/
theorem after0 (c : Dev nD) (r : Ref sig .tc) :
    Pipeline.afterRegion (dat0 a0 X0 c) (X0 c) (Proc.devRef .tc r) = Function.update (X0 c) (Proc.devRef .tc main_v20) ((dat0 a0 X0 c).arrAt 2 (cfg0 a0).N) (Proc.devRef .tc r) := by
  have off : ∀ r : Ref sig .tc, r ≠ main_v20 → X0 c (Proc.devRef .tc r) = Function.update (X0 c) (Proc.devRef .tc main_v20) ((dat0 a0 X0 c).arrAt 2 (cfg0 a0).N) (Proc.devRef .tc r) :=
    fun r hr => (Function.update_of_ne (fun e => hr (Proc.devRef_injective _ e)) _ _).symm
  by_cases h : ∃ w, r = Pipeline.arrRef spec0 w
  · obtain ⟨w, rfl⟩ := h
    refine (Pipeline.afterRegion_arr (dat0 a0 X0 c) (X0 c) winFacts0.arr_inj w).trans ?_
    match w with
    | ⟨0, _⟩ => exact ((dat0 a0 X0 c).arrAt_in 0 rfl _).trans (off main_v18 (by decide))
    | ⟨1, _⟩ => exact ((dat0 a0 X0 c).arrAt_in 1 rfl _).trans (off main_v19 (by decide))
    | ⟨2, _⟩ => exact (Function.update_self (Proc.devRef .tc main_v20) _ (X0 c)).symm
  · exact (Pipeline.afterRegion_of_not_arr (dat0 a0 X0 c) (X0 c) fun w e => h ⟨w, e⟩).trans (off r fun hr => h ⟨2, hr⟩)

theorem in1_of : ∀ w : Fin 8, w ≠ 7 → (spec1 w).isOut = false := by decide

/-- The attention kernel's region writes its result buffer only. -/
theorem after1 (c : Dev nD) (r : Ref sig .tc) :
    Pipeline.afterRegion (dat1 a1 X1 c) (X1 c) (Proc.devRef .tc r) = Function.update (X1 c) (Proc.devRef .tc main_v75) ((dat1 a1 X1 c).arrAt 7 (cfg1 a1).N) (Proc.devRef .tc r) := by
  have off : ∀ r : Ref sig .tc, r ≠ main_v75 → X1 c (Proc.devRef .tc r) = Function.update (X1 c) (Proc.devRef .tc main_v75) ((dat1 a1 X1 c).arrAt 7 (cfg1 a1).N) (Proc.devRef .tc r) :=
    fun r hr => (Function.update_of_ne (fun e => hr (Proc.devRef_injective _ e)) _ _).symm
  by_cases h : ∃ w, r = Pipeline.arrRef spec1 w
  · obtain ⟨w, rfl⟩ := h
    refine (Pipeline.afterRegion_arr (dat1 a1 X1 c) (X1 c) winFacts1.arr_inj w).trans ?_
    by_cases hw : w = (7 : Fin 8)
    · subst hw; exact (Function.update_self (Proc.devRef .tc main_v75) _ (X1 c)).symm
    · exact ((dat1 a1 X1 c).arrAt_in w (in1_of w hw) _).trans (off (Pipeline.arrRef spec1 w) fun e => hw (winFacts1.arr_inj e))
  · exact (Pipeline.afterRegion_of_not_arr (dat1 a1 X1 c) (X1 c) fun w e => h ⟨w, e⟩).trans (off r fun hr => h ⟨7, hr⟩)

theorem sub0 : Pipeline.arrRefs (τ := τ) spec0 ⊆ Pipeline.ucRefs τ sig := Pipeline.arrRefs_sub_ucRefs _ winFacts0.arr_unscoped
theorem tsub0 : Pipeline.tblRefs (τ := τ) pre0 ⊆ Pipeline.ucRefs τ sig := Pipeline.tblRefs_sub_ucRefs _ preFacts0.unscoped
theorem sub1 : Pipeline.arrRefs (τ := τ) spec1 ⊆ Pipeline.ucRefs τ sig := Pipeline.arrRefs_sub_ucRefs _ winFacts1.arr_unscoped
theorem tsub1 : Pipeline.tblRefs (τ := τ) pre1 ⊆ Pipeline.ucRefs τ sig := Pipeline.tblRefs_sub_ucRefs _ preFacts1.unscoped

theorem held_after (c : Dev nD) {A B : Valuation τ sig (Elt F)} (h : ∀ r : Ref sig .tc, A (Proc.devRef .tc r) = B (Proc.devRef .tc r)) :
    (StableHlo.held (c : Thread nD τ) (Pipeline.ucRefs τ sig) A : sProp 𝕄) = StableHlo.held (c : Thread nD τ) (Pipeline.ucRefs τ sig) B :=
  StableHlo.held_congr _ fun b hb => by
    obtain ⟨r, -, rfl⟩ := Finset.mem_map.mp (Finset.mem_filter.mp hb).1
    exact h r

/-- What a core owes between the segments: nothing. -/
abbrev idleAt : Fin 3 → Dev nD → sProp 𝕄 := fun _ c => iprop(∃ W, owes (c : Thread nD τ) (0 : CellTallies nD τ sig Unit) W)

theorem pre_of (c : Dev nD) (H : sProp 𝕄) (i : Fin 3) :
    iprop(H ∗ idleAt i c) ⊢ (iprop(H ∗ ((∃ W, owes (c : Thread nD τ) (0 : CellTallies nD τ sig Unit) W) ∗ BI.emp ∗ BI.emp)) : sProp 𝕄) := by
  iintro ⟨H, O⟩
  isplitl [H]; · iexact H
  isplitl [O]; · iexact O
  isplitl <;> iempintro

theorem post_of (c : Dev nD) (H : sProp 𝕄) (i : Fin 3) :
    (iprop(H ∗ ((∃ W, owes (c : Thread nD τ) (0 : CellTallies nD τ sig Unit) W) ∗ BI.emp ∗ BI.emp)) : sProp 𝕄) ⊢ iprop(H ∗ idleAt i c) := by
  iintro ⟨H, O, -, -⟩
  isplitl [H]; · iexact H
  iexact O

theorem pre0_of (hT : ∀ c k, a0.1 k = X0 c (Proc.devRef .tc (pre0.ref k))) (c : Dev nD) :
    iprop(StableHlo.held (c : Thread nD τ) (Pipeline.ucRefs τ sig) (X0 c) ∗ idleAt 0 c) ⊢ (reg0 a0 a1 X0 X1 hT).pre c := by
  refine (pre_of c _ 0).trans ?_
  exact Pipeline.RegionSeg.ofHeldInT_pre (pcs := pcfgs (F := F)) (a := adms a0 a1) (pdats := dats a0 a1 X0 X1) (p := 0) (D := fun _ => 0) (kit := launch0) (X := fun _ => BI.emp) (Y := fun _ => BI.emp) (R := fun _ => BI.emp) (W := X0) (b := fun _ => 0) sub0 tsub0 c

theorem post0_of (hT : ∀ c k, a0.1 k = X0 c (Proc.devRef .tc (pre0.ref k))) (c : Dev nD) :
    (reg0 a0 a1 X0 X1 hT).post c ⊢ iprop(StableHlo.held (c : Thread nD τ) (Pipeline.ucRefs τ sig) (Function.update (X0 c) (Proc.devRef .tc main_v20) ((dat0 a0 X0 c).arrAt 2 (cfg0 a0).N)) ∗ idleAt 1 c) := by
  rw [← held_after c (after0 a0 X0 c)]
  exact (Pipeline.RegionSeg.ofHeldInT_post (pcs := pcfgs (F := F)) (a := adms a0 a1) (pdats := dats a0 a1 X0 X1) (p := 0) (D := fun _ => 0) (kit := launch0) (X := fun _ => BI.emp) (Y := fun _ => BI.emp) (R := fun _ => BI.emp) (W := X0) (b := fun _ => 0) sub0 tsub0 c).trans (post_of c _ 1)

theorem pre1_of (hT : ∀ c k, a1.1 k = X1 c (Proc.devRef .tc (pre1.ref k))) (c : Dev nD) :
    iprop(StableHlo.held (c : Thread nD τ) (Pipeline.ucRefs τ sig) (X1 c) ∗ idleAt 1 c) ⊢ (reg1 a0 a1 X0 X1 hT).pre c := by
  refine (pre_of c _ 1).trans ?_
  exact Pipeline.RegionSeg.ofHeldInT_pre (pcs := pcfgs (F := F)) (a := adms a0 a1) (pdats := dats a0 a1 X0 X1) (p := 1) (D := fun _ => 0) (kit := launch1) (X := fun _ => BI.emp) (Y := fun _ => BI.emp) (R := fun _ => BI.emp) (W := X1) (b := fun _ => 0) sub1 tsub1 c

theorem post1_of (hT : ∀ c k, a1.1 k = X1 c (Proc.devRef .tc (pre1.ref k))) (c : Dev nD) :
    (reg1 a0 a1 X0 X1 hT).post c ⊢ iprop(StableHlo.held (c : Thread nD τ) (Pipeline.ucRefs τ sig) (Function.update (X1 c) (Proc.devRef .tc main_v75) ((dat1 a1 X1 c).arrAt 7 (cfg1 a1).N)) ∗ idleAt 2 c) := by
  rw [← held_after c (after1 a1 X1 c)]
  exact (Pipeline.RegionSeg.ofHeldInT_post (pcs := pcfgs (F := F)) (a := adms a0 a1) (pdats := dats a0 a1 X0 X1) (p := 1) (D := fun _ => 0) (kit := launch1) (X := fun _ => BI.emp) (Y := fun _ => BI.emp) (R := fun _ => BI.emp) (W := X1) (b := fun _ => 0) sub1 tsub1 c).trans (post_of c _ 2)

end Segments

end Cert.Proof.K1

end
-- ==== Proof.Frame.lean ====
module

public import proofs.«01_k».proof.Proof.Region0
public import proofs.«01_k».proof.Proof.Segs
public import proofs.«01_k».proof.Proof.Ok1
public import proofs.«01_k».proof.Proof.Gen.Kernel.Regions
public import Idealize.ShloMosaic.Lib.Pipeline.RegionArraysTS

@[expose] public section

set_option maxRecDepth 16384

noncomputable section

namespace Cert.Proof.K1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The program's frame -/

section Segments
variable (a0 : (pcfg0 (F := F)).Adm) (a1 : (pcfg1 (F := F)).Adm) (X0 X1 : Dev nD → Valuation τ sig (Elt F))

/-- The launch element: the staging cells' rounds. -/
abbrev launchEl : UR sig nD τ :=
  initOf (Pipeline.cells (Pipeline.pin (pcfgs (F := F)) (adms a0 a1)) (cellOf_inj (adms a0 a1))) (Pipeline.launchToks (Pipeline.pin (pcfgs (F := F)) (adms a0 a1)) (cellOf_inj (adms a0 a1)))

theorem fund : (ownU (launchEl a0 a1) : sProp 𝕄) ⊢ |={Set.univ}=> iprop(BI.own (emb₁ (launchEl a0 a1)) ∗ bigSep Finset.univ fun _ : Dev nD => (BI.emp : sProp 𝕄)) := by
  iintro Hu; imodintro
  isplitl [Hu]
  · iapply (show (ownU (launchEl a0 a1) : sProp 𝕄) ⊢ BI.own (emb₁ (launchEl a0 a1)) from .rfl)
    iexact Hu
  iapply (show (BI.emp : sProp 𝕄) ⊢ bigSep Finset.univ (fun _ : Dev nD => (BI.emp : sProp 𝕄)) from by rw [BI.bigSep_emp_const])
  iempintro

theorem start1 (ρ : Dev nD → PrngReg) (c : Dev nD) :
    (iprop(unscopedSems0 c ∗ owes (c : Thread nD τ) (0 : CellTallies nD τ sig Unit) ∅ ∗ Pipeline.launchCred (fun _ => 0) c ∗ prngReg c (ρ c) ∗ BI.emp) : sProp 𝕄) ⊢ idleAt 0 c := by
  iintro ⟨-, O, -⟩
  iexists ∅; iexact O

theorem start (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts LL lvl)
      ⊢ (|={Set.univ}=> bigSep Finset.univ (idleAt 0) : sProp 𝕄) := by
  have h : (bigSep Finset.univ fun c : Dev nD => (iprop(unscopedSems0 c ∗ owes (c : Thread nD τ) (0 : CellTallies nD τ sig Unit) ∅ ∗ Pipeline.launchCred (fun _ => 0) c ∗ prngReg c (ρ c) ∗ BI.emp) : sProp 𝕄)) ⊢ bigSep Finset.univ (idleAt (F := F) 0) :=
    bigSep_mono fun c _ => start1 ρ c
  iintro ⟨H, -⟩
  imodintro
  iapply h
  iexact H

end Segments

section Data
variable (m : (ℓ : Loc nD τ sig) → Buf (Elt F) ℓ)

/-- The bucket kernel's tables, and the buckets it leaves. -/
def adm0 : (pcfg0 (F := F)).Adm := ⟨fun k => V1 m 0 (Proc.devRef .tc (pre0.ref k)), trivial⟩
def res0 (c : Dev nD) : Buf (Elt F) ((c : Thread nD τ).loc main_v20) := (dat0 (adm0 m) (V1 m) c).arrAt 2 (cfg0 (adm0 m)).N

/-- What the first region leaves, over the program's launch contents elsewhere. -/
def outsA : Outs (F := F) := fun _ r c => if h : r = main_v20 then h ▸ res0 m c else m ((c : Thread nD τ).loc r)

/-- The attention kernel's tables, and the result it leaves. -/
def adm1 : (pcfg1 (F := F)).Adm := ⟨fun k => V9 m (outsA m) 0 (Proc.devRef .tc (pre1.ref k)), ok1_of _ (blk_lt m (outsA m) 0)⟩
def res1 (c : Dev nD) : Buf (Elt F) ((c : Thread nD τ).loc main_v75) := (dat1 (adm1 m) (V9 m (outsA m)) c).arrAt 7 (cfg1 (adm1 m)).N

/-- What the two regions leave. -/
def outsB : Outs (F := F) := fun _ r c => if h : r = main_v20 then h ▸ res0 m c else if h : r = main_v75 then h ▸ res1 m c else m ((c : Thread nD τ).loc r)

theorem outsA_v20 (k : ℕ) (c : Dev nD) : outsA m k main_v20 c = res0 m c := by unfold outsA; rw [dif_pos rfl]
theorem outsB_v20 (k : ℕ) (c : Dev nD) : outsB m k main_v20 c = res0 m c := by unfold outsB; rw [dif_pos rfl]
theorem outsB_v75 (k : ℕ) (c : Dev nD) : outsB m k main_v75 c = res1 m c := by
  unfold outsB; rw [dif_neg (by decide), dif_pos rfl]

theorem V2_eq (c : Dev nD) : V2 m (outsB m) c = Function.update (V1 m c) (Proc.devRef .tc main_v20) (res0 m c) := by
  unfold V2; rw [outsB_v20]

theorem V9_eq (c : Dev nD) : V9 m (outsB m) c = V9 m (outsA m) c := by
  unfold V9 V8 V7 V6 V5 V4 V3 V2
  rw [outsA_v20, outsB_v20]

theorem V10_eq (c : Dev nD) : V10 m (outsB m) c = Function.update (V9 m (outsA m) c) (Proc.devRef .tc main_v75) (res1 m c) := by
  unfold V10; rw [outsB_v75, V9_eq]

theorem tbl0 (c : Dev nD) (k : Fin pre0.K) : (adm0 m).1 k = V1 m c (Proc.devRef .tc (pre0.ref k)) := by
  obtain rfl : c = 0 := Subsingleton.elim _ _; rfl
theorem tbl1 (c : Dev nD) (k : Fin pre1.K) : (adm1 m).1 k = V9 m (outsA m) c (Proc.devRef .tc (pre1.ref k)) := by
  obtain rfl : c = 0 := Subsingleton.elim _ _; rfl

end Data

set_option maxHeartbeats 0 in
/-- Every execution of the program terminates and leaves its arguments as they were. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  frame_cond m emb₁ () Variants.none LL lvl (fun g hg => if_neg hg) ρ (outsB m) (adms (adm0 m) (adm1 m)) (dats (adm0 m) (adm1 m) (V1 m) (V9 m (outsA m))) (fun _ => 0) (fun _ => BI.emp) (launchEl (adm0 m) (adm1 m)) (fund (adm0 m) (adm1 m))
    idleAt (start ρ) (fun _ => .rfl) (reg0 (adm0 m) (adm1 m) (V1 m) (V9 m (outsA m)) (tbl0 m)) (pre0_of _ _ _ _ (tbl0 m)) (fun c => by rw [V2_eq]; exact post0_of _ _ _ _ (tbl0 m) c)
    (reg1 (adm0 m) (adm1 m) (V1 m) (V9 m (outsA m)) (tbl1 m)) (fun c => by rw [V9_eq]; exact pre1_of _ _ _ _ (tbl1 m) c) (fun c => by rw [V10_eq]; exact post1_of _ _ _ _ (tbl1 m) c)

end Cert.Proof.K1

end
-- ==== Proof.I.Cond.lean ====
module

public import proofs.«01_k».proof.Proof.Gen.KernelIdeal.Launch
public import proofs.«01_k».proof.Proof.Gen.KernelIdeal.Skeleton
public import Idealize.ShloMosaic.Lib.Tactic
public import Idealize.ShloMosaic.Lib.VecWindow
public import Idealize.ShloMosaic.Lib.WholeRead

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A memref's buffer on a core, and that buffer held whole at some contents. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The word a scalar load takes from a table held at `f`. -/
abbrev wd (c : Dev nD) {S : Shape} (M : Memref sig .tc .smem S .i32) (f : Bf (F := F) c M) (off sz : Fin S.rank → ℕ)
    (inb : ∀ a, off a + sz a ≤ S.size a) (x : (Rect.unit (s := S) off sz inb).shape.Idx) : BitVec 32 :=
  View.readAt (Elt F) M.view (Rect.unit off sz inb).toLoadRect f x

/-- Whether every distance of a tile is beyond the table's last bucket, on either side: from its least and greatest
    key position and its greatest and least query position. -/
abbrev far (kmin qmax kmax qmin : BitVec 32) : BitVec 1 :=
  Scalar.ori (Scalar.cmpi .sge (Scalar.subi kmin qmax) 128#32) (Scalar.cmpi .sle (Scalar.subi kmax qmin) 4294967168#32)

/-- The current tile is far, as the body reads it from the four tables. -/
abbrev cur (c : Dev nD) (i : grid1.Coords) (a3 : Memref sig .tc .smem S16 .i32) (a4 : Memref sig .tc .smem S16 .i32)
    (a5 : Memref sig .tc .smem S8 .i32) (a6 : Memref sig .tc .smem S8 .i32)
    (f3 : Bf (F := F) c a3) (f4 : Bf (F := F) c a4) (f5 : Bf (F := F) c a5) (f6 : Bf (F := F) c a6) : BitVec 1 :=
  far (wd c a5 f5 (k1_off4 i) S1.size (k1_off4_inb i) (Shape.Idx.first (numel1_S1.symm ▸ Nat.one_pos)))
    (wd c a4 f4 (k1_off3 i) S1.size (k1_off3_inb i) (Shape.Idx.first (numel1_S1.symm ▸ Nat.one_pos)))
    (wd c a6 f6 (k1_off4 i) S1.size (k1_off4_inb i) (Shape.Idx.first (numel1_S1.symm ▸ Nat.one_pos)))
    (wd c a3 f3 (k1_off3 i) S1.size (k1_off3_inb i) (Shape.Idx.first (numel1_S1.symm ▸ Nat.one_pos)))

/-! ## The body's six printed conditions, over the key step and the flag of the current tile -/

abbrev inner (j : ℕ) : BitVec 1 := Scalar.andi (Scalar.cmpi .sgt (BitVec.ofNat 32 j) 0#32) (Scalar.cmpi .slt (BitVec.ofNat 32 j) 8#32)
abbrev two : BitVec 32 := Scalar.select (Scalar.cmpi .eq 2#32 0#32) 1#32 2#32
abbrev md (j : ℕ) : BitVec 32 :=
  Scalar.select (Scalar.andi (Scalar.xori (Scalar.cmpi .slt (Scalar.remsi (BitVec.ofNat 32 j) two) 0#32) (Scalar.cmpi .slt two 0#32))
    (Scalar.cmpi .ne (Scalar.remsi (BitVec.ofNat 32 j) two) 0#32)) (Scalar.addi (Scalar.remsi (BitVec.ofNat 32 j) two) two)
    (Scalar.remsi (BitVec.ofNat 32 j) two)
abbrev nz (v : BitVec 1) : BitVec 1 := Scalar.cmpi .ne (Scalar.extui v : BitVec 32) 0#32
abbrev c33 (j : ℕ) (v : BitVec 1) : BitVec 1 := nz (Scalar.andi (Scalar.cmpi .eq (BitVec.ofNat 32 j) 0#32) v)
abbrev c37 (j : ℕ) (v : BitVec 1) : BitVec 1 := nz (Scalar.andi (Scalar.cmpi .eq (BitVec.ofNat 32 j) 0#32) (Scalar.xori v 1#1))
abbrev c55 (j : ℕ) (v : BitVec 1) : BitVec 1 := nz (Scalar.andi (Scalar.andi (inner j) (Scalar.cmpi .eq (md j) 0#32)) v)
abbrev c58 (j : ℕ) (v : BitVec 1) : BitVec 1 := nz (Scalar.andi (Scalar.andi (inner j) (Scalar.cmpi .eq (md j) 0#32)) (Scalar.xori v 1#1))
abbrev c73 (j : ℕ) (v : BitVec 1) : BitVec 1 := nz (Scalar.andi (Scalar.andi (inner j) (Scalar.cmpi .eq (md j) 1#32)) v)
abbrev c76 (j : ℕ) (v : BitVec 1) : BitVec 1 := nz (Scalar.andi (Scalar.andi (inner j) (Scalar.cmpi .eq (md j) 1#32)) (Scalar.xori v 1#1))

theorem conds : ∀ (j : Fin 9) (v : BitVec 1),
    (c33 j v = 1#1 ↔ j.val = 0 ∧ v = 1#1) ∧ (c37 j v = 1#1 ↔ j.val = 0 ∧ v = 0#1)
    ∧ (c55 j v = 1#1 ↔ (0 < j.val ∧ j.val < 8 ∧ j.val % 2 = 0) ∧ v = 1#1) ∧ (c58 j v = 1#1 ↔ (0 < j.val ∧ j.val < 8 ∧ j.val % 2 = 0) ∧ v = 0#1)
    ∧ (c73 j v = 1#1 ↔ (0 < j.val ∧ j.val < 8 ∧ j.val % 2 = 1) ∧ v = 1#1) ∧ (c76 j v = 1#1 ↔ (0 < j.val ∧ j.val < 8 ∧ j.val % 2 = 1) ∧ v = 0#1) := by
  decide +kernel

theorem cond7 (i : grid1.Coords) : k1_cond7 i = 1#1 ↔ (i 2).val = 8 := by
  have h : ∀ j : Fin 9, nz (Scalar.cmpi .eq (BitVec.ofNat 32 j.val) 8#32) = 1#1 ↔ j.val = 8 := by decide +kernel
  exact h (i 2)

/-- A buffer stored whole is held at the contents that read the stored value. -/
theorem own_full (c : Dev nD) {sp : Space} {S : Shape} {e : EltTy} {M : Memref sig .tc sp S e} (h : M.IsWhole)
    (f : Bf (F := F) c M) {off : Fin S.rank → ℕ} (inb : ∀ a, off a + S.size a ≤ S.size a)
    (w : (Rect.unit (s := S) off S.size inb).shape.Idx → Elt F e) (L : List (View.Piece (Elt F) S e)) :
    (pt c M (M.view.writes (Elt F) f (⟨Rect.unit off S.size inb, w⟩ :: L)) : sProp 𝕄) ⊢ pt c M (h.unread w) := by
  rw [← h.eq_unread (View.read_writes_full M.view f inb w L)]

end Cert.Proof.I1

end
-- ==== Proof.I.Step.lean ====
module

public import proofs.«01_k».proof.Proof.Gen.KernelIdeal.Launch
public import proofs.«01_k».proof.Proof.Gen.KernelIdeal.Skeleton
public import Idealize.ShloMosaic.Lib.Tactic
public import proofs.«01_k».proof.Proof.I.Cond

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## One grid point of the attention, as operations on vectors

The scratch memory is two things: what has been accumulated so far (`Acc`, for both halves of the heads) and the
logits of the tile computed last, not yet accumulated (`Pend`). -/

abbrev log2e : F .f32 := Named.named κ "log2e" 0x3FB8AA3B#32
abbrev scaleLog2 : F .f32 := Named.named κ "scale_log2" 0x3E0293EE#32

/-- A rectangle of an array. -/
abbrev blk {S : Shape} {e : EltTy} (X : S.Idx → Elt F e) (off sz : Fin S.rank → ℕ) (inb : ∀ a, off a + sz a ≤ S.size a) :
    (Rect.unit (s := S) off sz inb).shape.Idx → Elt F e :=
  fun y => X ((Rect.unit off sz inb).toLoadRect.idx y)

/-- A buffer that holds an array, read whole, is the array. -/
theorem rdFull {sp : Space} {a b : ℕ} {e : EltTy} {m : Memref sig .tc sp ⟨2, ![a, b]⟩ e} (h : m.IsWhole) (X : Shape.Idx ⟨2, ![a, b]⟩ → Elt F e)
    (inb : ∀ k, (![0, 0] : Fin 2 → ℕ) k + (⟨2, ![a, b]⟩ : Shape).size k ≤ (⟨2, ![a, b]⟩ : Shape).size k) :
    View.readAt (Elt F) m.view (Rect.unit (s := ⟨2, ![a, b]⟩) ![0, 0] (⟨2, ![a, b]⟩ : Shape).size inb).toLoadRect (h.unread X) = X := by
  funext x
  rw [Memref.IsWhole.readAt_unread]
  congr 1
  funext k
  apply Fin.ext
  fin_cases k <;> simp [LoadRect.idx, Rect.toLoadRect, Rect.unit]

/-- The running greatest logit, the running sum of weights, the running weighted sum of values; of each half. -/
structure Acc (F : FTy → Type) where
  m1 : Vec F S1x512 .f32
  l1 : Vec F S1x512 .f32
  a1 : Vec F S256x512 .f32
  m2 : Vec F S1x512 .f32
  l2 : Vec F S1x512 .f32
  a2 : Vec F S256x512 .f32

/-- A tile's logits and each column's greatest; of each half. -/
structure Pend (F : FTy → Type) where
  s1 : Vec F S1024x512 .f32
  r1 : Vec F S1x512 .f32
  s2 : Vec F S1024x512 .f32
  r2 : Vec F S1x512 .f32

/-- A tile's products, times the logits' scale. -/
def dots (kb : Vec F S1024x128 .bf16) (qb : Vec F S128x512 .bf16) : FVec F S1024x512 .f32 :=
  mulf (matmul dot_S1024x128_S128x512_S1024x512_1_0_0_1_n_n none kb qb (constant S1024x512 .f32 0x00000000#32)) (broadcast S1024x512 scaleLog2)

/-- Each column's greatest. -/
def colMax (s : FVec F S1024x512 .f32) : FVec F S1x512 .f32 :=
  shapeCast S1x512 (shapeCast S1x512 (multiReduction .maximumf [0] S512 s 0xFF800000#32 reduces_S1024x512_S512 (.inl rfl) rfl) shapeCasts_S512_S1x512) shapeCasts_S1x512_S1x512

def pend (s1 s2 : FVec F S1024x512 .f32) : Pend F :=
  ⟨shapeCast S1024x512 s1 shapeCasts_S1024x512_S1024x512, colMax s1, shapeCast S1024x512 s2 shapeCasts_S1024x512_S1024x512, colMax s2⟩

/-- The head's bias table on every row, in base two. -/
def tabRow (row : Vec F S1x128 .f32) : FVec F S1024x128 .f32 :=
  mulf (broadcastTo S1024x128 (shapeCast S1x128 (shapeCast S1x128 row shapeCasts_S1x128_S1x128) shapeCasts_S1x128_S1x128) broadcasts_S1x128_S1024x128)
    (broadcast S1024x128 log2e)

/-- The biases of a quarter of a tile, from its bucket numbers. -/
def quarter (t : FVec F S1024x128 .f32) (b : Vec F S1024x128 .i8) : FVec F S1024x128 .f32 :=
  have x : IVec S1024x128 32 := extsi 32 (shapeCast S1024x128 b shapeCasts_S1024x128_S1024x128 : IVec S1024x128 8) natLt_8_32
  dynamicGather 1 t (shapeCast S1024x128 (shapeCast S1024x128x1 (select (cmpi .slt x (broadcast S1024x128 0#32)) (addi x (broadcast S1024x128 128#32)) x)
    shapeCasts_S1024x128_S1024x128x1) shapeCasts_S1024x128x1_S1024x128)

/-- The biases of a tile. -/
def biases (row : Vec F S1x128 .f32) (b0 b1 b2 b3 : Vec F S1024x128 .i8) : FVec F S1024x512 .f32 :=
  concatenate S1024x512 1 [⟨S1024x128, quarter (tabRow row) b0⟩, ⟨S1024x128, quarter (tabRow row) b1⟩, ⟨S1024x128, quarter (tabRow row) b2⟩,
    ⟨S1024x128, quarter (tabRow row) b3⟩] concatenates_S1024x128_S1024x128_S1024x128_S1024x128_S1024x512_d1

/-- The keys' half of a tile and the queries' half of it. -/
abbrev kh1 (k : Vec F S1024x256 .bf16) : Vec F S1024x128 .bf16 := blk (e := .bf16) k ![0, 0] S1024x128.size inb_S1024x256_S1024x128_0_0
abbrev kh2 (k : Vec F S1024x256 .bf16) : Vec F S1024x128 .bf16 := blk (e := .bf16) k ![0, 128] S1024x128.size inb_S1024x256_S1024x128_0_128
abbrev qh1 (q : Vec F S256x512 .bf16) : Vec F S128x512 .bf16 := blk (e := .bf16) q ![0, 0] S128x512.size inb_S256x512_S128x512_0_0
abbrev qh2 (q : Vec F S256x512 .bf16) : Vec F S128x512 .bf16 := blk (e := .bf16) q ![128, 0] S128x512.size inb_S256x512_S128x512_128_0

/-- The tile's logits when one bias serves all of it: the bias is left out. -/
def farPend (q : Vec F S256x512 .bf16) (k : Vec F S1024x256 .bf16) : Pend F := pend (dots (kh1 k) (qh1 q)) (dots (kh2 k) (qh2 q))

/-- The tile's logits, each with its bias. -/
def nearPend (row : Vec F S1x128 .f32) (b : Vec F S1024x512 .i8) (q : Vec F S256x512 .bf16) (k : Vec F S1024x256 .bf16) : Pend F :=
  have bi : FVec F S1024x512 .f32 := biases row (blk (e := .i8) b ![0, 0] S1024x128.size inb_S1024x512_S1024x128_0_0) (blk (e := .i8) b ![0, 128] S1024x128.size inb_S1024x512_S1024x128_0_128)
    (blk (e := .i8) b ![0, 256] S1024x128.size inb_S1024x512_S1024x128_0_256) (blk (e := .i8) b ![0, 384] S1024x128.size inb_S1024x512_S1024x128_0_384)
  pend (addf (dots (kh1 k) (qh1 q)) bi) (addf (dots (kh2 k) (qh2 q)) bi)

/-- The state before any tile is accumulated. -/
def acc0 : Acc F :=
  ⟨shapeCast S1x512 (broadcast S1x512 (Scalar.ofBits .f32 0xFF800000#32 : F .f32)) shapeCasts_S1x512_S1x512, shapeCast S1x512 (broadcast S1x512 (Scalar.ofBits .f32 0x00000000#32 : F .f32)) shapeCasts_S1x512_S1x512,
   shapeCast S256x512 (broadcast S256x512 (Scalar.ofBits .f32 0x00000000#32 : F .f32)) shapeCasts_S256x512_S256x512,
   shapeCast S1x512 (broadcast S1x512 (Scalar.ofBits .f32 0xFF800000#32 : F .f32)) shapeCasts_S1x512_S1x512, shapeCast S1x512 (broadcast S1x512 (Scalar.ofBits .f32 0x00000000#32 : F .f32)) shapeCasts_S1x512_S1x512,
   shapeCast S256x512 (broadcast S256x512 (Scalar.ofBits .f32 0x00000000#32 : F .f32)) shapeCasts_S256x512_S256x512⟩

/-- The bias that serves all of the previous tile, in base two; zero when its logits hold their own. -/
def bias (v7 v14 : BitVec 1) (wp wn : F .f32) : F .f32 :=
  Scalar.mulf log2e (Scalar.select v14 (Scalar.select v7 wp wn) (Scalar.ofBits .f32 0x00000000#32 : F .f32))

def mNew (b : F .f32) (m r : Vec F S1x512 .f32) : FVec F S1x512 .f32 := maximumf m (addf r (broadcast S1x512 b))
def alpha (b : F .f32) (m r : Vec F S1x512 .f32) : FVec F S1x512 .f32 := exp2 (subf m (mNew b m r))
/-- Half of a tile's weights. -/
def prob (b : F .f32) (m r : Vec F S1x512 .f32) (s : Vec F S512x512 .f32) : FVec F S512x512 .f32 :=
  exp2 (addf s (broadcastTo S512x512 (subf (broadcast S1x512 b) (mNew b m r)) broadcasts_S1x512_S512x512))
def colSum (p : FVec F S512x512 .f32) : FVec F S1x512 .f32 :=
  shapeCast S1x512 (multiReduction .add [0] S512 p 0x00000000#32 reduces_S512x512_S512 (.inl rfl) rfl) shapeCasts_S512_S1x512
def sTop (s : Vec F S1024x512 .f32) : Vec F S512x512 .f32 := blk (e := .f32) s ![0, 0] S512x512.size inb_S1024x512_S512x512_0_0
def sBot (s : Vec F S1024x512 .f32) : Vec F S512x512 .f32 := blk (e := .f32) s ![512, 0] S512x512.size inb_S1024x512_S512x512_512_0

def lNew (b : F .f32) (m r l : Vec F S1x512 .f32) (s : Vec F S1024x512 .f32) : FVec F S1x512 .f32 :=
  addf (mulf (alpha b m r) l) (addf (colSum (prob b m r (sTop s))) (colSum (prob b m r (sBot s))))
def aNew (b : F .f32) (m r : Vec F S1x512 .f32) (a : Vec F S256x512 .f32) (s : Vec F S1024x512 .f32) (v : Vec F S256x1024 .bf16) : FVec F S256x512 .f32 :=
  addf (mulf (broadcastTo S256x512 (alpha b m r) broadcasts_S1x512_S256x512) a)
    (matmul dot_S256x1024_S1024x512_S256x512_1_0_0_1_n_n none v
      (concatenate S1024x512 0 [⟨S512x512, truncf .bf16 (prob b m r (sTop s)) bitsLt_bf16_f32⟩, ⟨S512x512, truncf .bf16 (prob b m r (sBot s)) bitsLt_bf16_f32⟩]
        concatenates_S512x512_S512x512_S1024x512_d0)
      (constant S256x512 .f32 0x00000000#32))

/-- The previous tile accumulated. -/
def accNew (b : F .f32) (p : Pend F) (v : Vec F S256x1024 .bf16) (a : Acc F) : Acc F :=
  ⟨shapeCast S1x512 (mNew b a.m1 p.r1) shapeCasts_S1x512_S1x512, shapeCast S1x512 (lNew b a.m1 p.r1 a.l1 p.s1) shapeCasts_S1x512_S1x512,
   shapeCast S256x512 (aNew b a.m1 p.r1 a.a1 p.s1 v) shapeCasts_S256x512_S256x512,
   shapeCast S1x512 (mNew b a.m2 p.r2) shapeCasts_S1x512_S1x512, shapeCast S1x512 (lNew b a.m2 p.r2 a.l2 p.s2) shapeCasts_S1x512_S1x512,
   shapeCast S256x512 (aNew b a.m2 p.r2 a.a2 p.s2 v) shapeCasts_S256x512_S256x512⟩

theorem acc_congr {b b' : F .f32} {s1 s1' s2 s2' : Vec F S1024x512 .f32} {r1 r1' r2 r2' : Vec F S1x512 .f32} {v v' : Vec F S256x1024 .bf16}
    {m1 m1' l1 l1' m2 m2' l2 l2' : Vec F S1x512 .f32} {a1 a1' a2 a2' : Vec F S256x512 .f32}
    (h0 : b = b') (h1 : s1 = s1') (h2 : r1 = r1') (h3 : s2 = s2') (h4 : r2 = r2') (h5 : v = v') (h6 : m1 = m1') (h7 : l1 = l1') (h8 : a1 = a1')
    (h9 : m2 = m2') (h10 : l2 = l2') (h11 : a2 = a2') :
    accNew b (Pend.mk s1 r1 s2 r2) v (Acc.mk m1 l1 a1 m2 l2 a2) = accNew b' (Pend.mk s1' r1' s2' r2') v' (Acc.mk m1' l1' a1' m2' l2' a2') := by
  subst h0 h1 h2 h3 h4 h5 h6 h7 h8 h9 h10 h11
  rfl

theorem near_congr {X X' : S16x128.Idx → Elt F .f32} {b b' : Vec F S1024x512 .i8} {q q' : Vec F S256x512 .bf16} {k k' : Vec F S1024x256 .bf16} (off : Fin 2 → ℕ) (inb : ∀ a : Fin 2, off a + S1x128.size a ≤ S16x128.size a)
    (h1 : X = X') (h2 : b = b') (h3 : q = q') (h4 : k = k') :
    nearPend (blk (e := .f32) X off S1x128.size inb) b q k = nearPend (blk (e := .f32) X' off S1x128.size inb) b' q' k' := by
  subst h1 h2 h3 h4
  rfl

/-- The block of the result, from all that was accumulated. -/
def result (small : Vec F S8x256 .f32) (a : Acc F) : FVec F S512x256 .bf16 :=
  k1_pay1 (k1_pay157 (blk (e := .f32) small ![0, 0] S1x128.size inb_S8x256_S1x128_0_0) (blk (e := .f32) small ![1, 0] S1x128.size inb_S8x256_S1x128_1_0)
    (blk (e := .f32) small ![2, 0] S1x128.size inb_S8x256_S1x128_2_0) (blk (e := .f32) small ![3, 0] S1x128.size inb_S8x256_S1x128_3_0))
    a.a1 a.l1 a.a2 a.l2 (blk (e := .f32) small ![4, 0] S1x256.size inb_S8x256_S1x256_4_0)

/-- A state whose parts are known. -/
theorem acc_ext {m1 l1 m2 l2 : Vec F S1x512 .f32} {a1 a2 : Vec F S256x512 .f32} {b : Acc F} (h1 : m1 = b.m1) (h2 : l1 = b.l1) (h3 : a1 = b.a1)
    (h4 : m2 = b.m2) (h5 : l2 = b.l2) (h6 : a2 = b.a2) : Acc.mk m1 l1 a1 m2 l2 a2 = b := by
  subst h1 h2 h3 h4 h5 h6
  rfl

theorem pend_ext {s1 s2 : Vec F S1024x512 .f32} {r1 r2 : Vec F S1x512 .f32} {b : Pend F} (h1 : s1 = b.s1) (h2 : r1 = b.r1) (h3 : s2 = b.s2)
    (h4 : r2 = b.r2) : Pend.mk s1 r1 s2 r2 = b := by
  subst h1 h2 h3 h4
  rfl

/-- The word of a table at a place: the query tile's, the key tile's, the one before it. -/
abbrev wq (c : Dev nD) (i : grid1.Coords) (M : Memref sig .tc .smem S16 .i32) (f : Bf (F := F) c M) : BitVec 32 :=
  wd c M f (k1_off3 i) S1.size (k1_off3_inb i) (Shape.Idx.first (numel1_S1.symm ▸ Nat.one_pos))
abbrev wp' (c : Dev nD) (i : grid1.Coords) (M : Memref sig .tc .smem S8 .i32) (f : Bf (F := F) c M) : BitVec 32 :=
  wd c M f (k1_off2 i) S1.size (k1_off2_inb i) (Shape.Idx.first (numel1_S1.symm ▸ Nat.one_pos))

/-- One entry of the bias table: a far bucket's, for the head at hand. -/
abbrev word1 (X : Vec F S32x16 .f32) (off : Fin 2 → ℕ) (inb : ∀ a : Fin 2, off a + S1x1.size a ≤ S32x16.size a) : F .f32 :=
  blk (e := .f32) X off S1x1.size inb (Shape.Idx.first (numel1_S1x1.symm ▸ Nat.one_pos))

theorem rdWord {m : Memref sig .tc .smem S32x16 .f32} (h : m.IsWhole) (X : Vec F S32x16 .f32) (off : Fin 2 → ℕ)
    (inb : ∀ a : Fin 2, off a + S1x1.size a ≤ S32x16.size a) :
    View.readAt (Elt F) m.view (Rect.unit (s := S32x16) off S1x1.size inb).toLoadRect (h.unread X) (Shape.Idx.first (numel1_S1x1.symm ▸ Nat.one_pos))
      = word1 X off inb := by
  rw [Memref.IsWhole.readAt_unread]

/-- The bias that serves all of the previous tile, from the tables. -/
def biasAt (c : Dev nD) (i : grid1.Coords) (a3 a4 : Memref sig .tc .smem S16 .i32) (a5 a6 : Memref sig .tc .smem S8 .i32)
    (f0 : Bf (F := F) c a3) (f1 : Bf (F := F) c a4) (f2 : Bf (F := F) c a5) (f3 : Bf (F := F) c a6) (wp wn : F .f32) : F .f32 :=
  bias (Scalar.cmpi .sge (Scalar.subi (wp' c i a5 f2) (wq c i a4 f1)) 128#32) (far (wp' c i a5 f2) (wq c i a4 f1) (wp' c i a6 f3) (wq c i a3 f0)) wp wn

theorem bias_congr (c : Dev nD) (i : grid1.Coords) (a3 a4 : Memref sig .tc .smem S16 .i32) (a5 a6 : Memref sig .tc .smem S8 .i32)
    (f0 : Bf (F := F) c a3) (f1 : Bf (F := F) c a4) (f2 : Bf (F := F) c a5) (f3 : Bf (F := F) c a6) {w w' v v' : F .f32} (h : w = w') (g : v = v') :
    bias (Scalar.cmpi .sge (Scalar.subi (wp' c i a5 f2) (wq c i a4 f1)) 128#32) (far (wp' c i a5 f2) (wq c i a4 f1) (wp' c i a6 f3) (wq c i a3 f0)) w v
      = biasAt c i a3 a4 a5 a6 f0 f1 f2 f3 w' v' := by
  subst h g
  rfl

theorem result_congr {small : Vec F S8x256 .f32} {a : Acc F} {r : FVec F S1x1 .f32} {x1 x3 : Vec F S256x512 .f32} {x2 x4 : Vec F S1x512 .f32} {g : Vec F S1x256 .f32}
    (h0 : r = k1_pay157 (blk (e := .f32) small ![0, 0] S1x128.size inb_S8x256_S1x128_0_0) (blk (e := .f32) small ![1, 0] S1x128.size inb_S8x256_S1x128_1_0)
      (blk (e := .f32) small ![2, 0] S1x128.size inb_S8x256_S1x128_2_0) (blk (e := .f32) small ![3, 0] S1x128.size inb_S8x256_S1x128_3_0))
    (h1 : x1 = a.a1) (h2 : x2 = a.l1) (h3 : x3 = a.a2) (h4 : x4 = a.l2) (h5 : g = blk (e := .f32) small ![4, 0] S1x256.size inb_S8x256_S1x256_4_0) :
    k1_pay1 r x1 x2 x3 x4 g = result small a := by
  subst h0 h1 h2 h3 h4 h5
  rfl

end Cert.Proof.I1

end
-- ==== Proof.I.Scr.lean ====
module

public import proofs.«01_k».proof.Proof.Gen.KernelIdeal.Launch
public import proofs.«01_k».proof.Proof.Gen.KernelIdeal.Skeleton
public import proofs.«01_k».proof.Proof.I.Step

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A whole memref held at an array. -/
theorem own_eq (c : Dev nD) {sp : Space} {S : Shape} {e : EltTy} {M : Memref sig .tc sp S e} (h : M.IsWhole) (X : S.Idx → Elt F e) :
    (owns (c : Thread nD τ) M fullShare X : sProp 𝕄) = pt c M (h.unread X) := by
  have h₁ : (owns (c : Thread nD τ) M fullShare X : sProp 𝕄) ⊢ pt c M (h.unread X) := by
    unfold owns
    rw [h.set_eq_univ]
    iintro ⟨%f, %hf, H⟩
    rw [h.eq_unread hf]
    iexact H
  have h₂ : pt c M (h.unread X) ⊢ (owns (c : Thread nD τ) M fullShare X : sProp 𝕄) := by
    unfold owns
    rw [h.set_eq_univ]
    iintro H
    iexists (h.unread X)
    isplitr
    · ipureintro; exact h.read_unread X
    iexact H
  exact BI.equiv_iff.mp ⟨h₁, h₂⟩

theorem pt_unread (c : Dev nD) {sp : Space} {S : Shape} {e : EltTy} {M : Memref sig .tc sp S e} (h : M.IsWhole) (w : Bf (F := F) c M) :
    pt c M w ⊢ (pt c M (h.unread (M.view.read (Elt F) w)) : sProp 𝕄) := by
  rw [h.unread_read]

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16)

/-- What the scratch memory holds before key step `j`, when `a` has been accumulated and `p` is the tile not yet accumulated: from step
    1 on the accumulated part; the tile in the first set of buffers before an odd step, in the second before an even one. -/
abbrev live (j : ℕ) (a : Acc F) (p : Pend F) (A0 : Acc F) (Pa Pb : Pend F) : Prop :=
  (j ≠ 0 → A0 = a) ∧ (j % 2 = 1 → Pa = p) ∧ (j ≠ 0 ∧ j % 2 = 0 → Pb = p)

/-- The scratch memory before key step `j`. -/
def scr (j : ℕ) (a : Acc F) (p : Pend F) : sProp 𝕄 :=
  iprop(∃ (A0 : Acc F) (Pa Pb : Pend F), ⌜live j a p A0 Pa Pb⌝ ∗ pt c arg16 (harg16.unread A0.m1) ∗ pt c arg17 (harg17.unread A0.l1) ∗ pt c arg18 (harg18.unread A0.a1) ∗ pt c arg19 (harg19.unread A0.m2) ∗ pt c arg20 (harg20.unread A0.l2) ∗ pt c arg21 (harg21.unread A0.a2) ∗ pt c arg22 (harg22.unread Pa.s1) ∗ pt c arg23 (harg23.unread Pa.s2) ∗ pt c arg24 (harg24.unread Pa.r1) ∗ pt c arg25 (harg25.unread Pa.r2) ∗ pt c arg26 (harg26.unread Pb.s1) ∗ pt c arg27 (harg27.unread Pb.s2) ∗ pt c arg28 (harg28.unread Pb.r1) ∗ pt c arg29 (harg29.unread Pb.r2))

set_option maxHeartbeats 0 in
/-- Contents of the scratch memory, from what they read. -/
theorem scr_intro (j : ℕ) (a : Acc F) (p : Pend F)
    (w13 : Bf (F := F) c arg16) (w14 : Bf (F := F) c arg17) (w15 : Bf (F := F) c arg18) (w16 : Bf (F := F) c arg19) (w17 : Bf (F := F) c arg20) (w18 : Bf (F := F) c arg21) (w19 : Bf (F := F) c arg22) (w20 : Bf (F := F) c arg23) (w21 : Bf (F := F) c arg24) (w22 : Bf (F := F) c arg25) (w23 : Bf (F := F) c arg26) (w24 : Bf (F := F) c arg27) (w25 : Bf (F := F) c arg28) (w26 : Bf (F := F) c arg29)
    (hl : live j a p (Acc.mk (arg16.view.read (Elt F) w13) (arg17.view.read (Elt F) w14) (arg18.view.read (Elt F) w15) (arg19.view.read (Elt F) w16) (arg20.view.read (Elt F) w17) (arg21.view.read (Elt F) w18)) (Pend.mk (arg22.view.read (Elt F) w19) (arg24.view.read (Elt F) w21) (arg23.view.read (Elt F) w20) (arg25.view.read (Elt F) w22)) (Pend.mk (arg26.view.read (Elt F) w23) (arg28.view.read (Elt F) w25) (arg27.view.read (Elt F) w24) (arg29.view.read (Elt F) w26))) :
    iprop(pt c arg16 w13 ∗ pt c arg17 w14 ∗ pt c arg18 w15 ∗ pt c arg19 w16 ∗ pt c arg20 w17 ∗ pt c arg21 w18 ∗ pt c arg22 w19 ∗ pt c arg23 w20 ∗ pt c arg24 w21 ∗ pt c arg25 w22 ∗ pt c arg26 w23 ∗ pt c arg27 w24 ∗ pt c arg28 w25 ∗ pt c arg29 w26) ⊢ (scr c arg16 harg16 arg17 harg17 arg18 harg18 arg19 harg19 arg20 harg20 arg21 harg21 arg22 harg22 arg23 harg23 arg24 harg24 arg25 harg25 arg26 harg26 arg27 harg27 arg28 harg28 arg29 harg29 j a p : sProp 𝕄) := by
  unfold scr
  iintro ⟨H13, H14, H15, H16, H17, H18, H19, H20, H21, H22, H23, H24, H25, H26⟩
  iexists (Acc.mk (arg16.view.read (Elt F) w13) (arg17.view.read (Elt F) w14) (arg18.view.read (Elt F) w15) (arg19.view.read (Elt F) w16) (arg20.view.read (Elt F) w17) (arg21.view.read (Elt F) w18))
  iexists (Pend.mk (arg22.view.read (Elt F) w19) (arg24.view.read (Elt F) w21) (arg23.view.read (Elt F) w20) (arg25.view.read (Elt F) w22))
  iexists (Pend.mk (arg26.view.read (Elt F) w23) (arg28.view.read (Elt F) w25) (arg27.view.read (Elt F) w24) (arg29.view.read (Elt F) w26))
  isplitr
  · ipureintro; exact hl
  isplitl [H13]; · iapply (pt_unread c harg16 w13); iexact H13
  isplitl [H14]; · iapply (pt_unread c harg17 w14); iexact H14
  isplitl [H15]; · iapply (pt_unread c harg18 w15); iexact H15
  isplitl [H16]; · iapply (pt_unread c harg19 w16); iexact H16
  isplitl [H17]; · iapply (pt_unread c harg20 w17); iexact H17
  isplitl [H18]; · iapply (pt_unread c harg21 w18); iexact H18
  isplitl [H19]; · iapply (pt_unread c harg22 w19); iexact H19
  isplitl [H20]; · iapply (pt_unread c harg23 w20); iexact H20
  isplitl [H21]; · iapply (pt_unread c harg24 w21); iexact H21
  isplitl [H22]; · iapply (pt_unread c harg25 w22); iexact H22
  isplitl [H23]; · iapply (pt_unread c harg26 w23); iexact H23
  isplitl [H24]; · iapply (pt_unread c harg27 w24); iexact H24
  isplitl [H25]; · iapply (pt_unread c harg28 w25); iexact H25
  iapply (pt_unread c harg29 w26); iexact H26

/-- What is accumulated after a grid point, and the tile it leaves. -/
def stepAcc (a : Acc F) (p : Pend F) : Acc F := if (i 2).val = 0 then acc0 else accNew (biasAt c i arg3 arg4 arg5 arg6 f0 f1 f2 f3 (word1 X5 (k1_off6 i) (k1_off6_inb i)) (word1 X5 (k1_off7 i) (k1_off7_inb i))) p X11 a
def stepPend : Pend F := if cur c i arg3 arg4 arg5 arg6 f0 f1 f2 f3 = 1#1 then farPend X9 X10 else nearPend (blk (e := .f32) X6 (k1_off5 i) S1x128.size (k1_off5_inb i)) X7 X9 X10

/-- The tables and the staged inputs. -/
abbrev ins : sProp 𝕄 := iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11))

set_option maxHeartbeats 0 in
/-- A run of the body, as a step of the scratch memory. -/
theorem fin (j : ℕ) (a : Acc F) (p : Pend F) (A0 : Acc F) (Pa Pb : Pend F) (Y : Vec F S512x256 .bf16) (w12 : Bf (F := F) c arg15)
    (w13 : Bf (F := F) c arg16) (w14 : Bf (F := F) c arg17) (w15 : Bf (F := F) c arg18) (w16 : Bf (F := F) c arg19) (w17 : Bf (F := F) c arg20) (w18 : Bf (F := F) c arg21) (w19 : Bf (F := F) c arg22) (w20 : Bf (F := F) c arg23) (w21 : Bf (F := F) c arg24) (w22 : Bf (F := F) c arg25) (w23 : Bf (F := F) c arg26) (w24 : Bf (F := F) c arg27) (w25 : Bf (F := F) c arg28) (w26 : Bf (F := F) c arg29)
    (hY : arg15.view.read (Elt F) w12 = Y) (hl : live j a p (Acc.mk (arg16.view.read (Elt F) w13) (arg17.view.read (Elt F) w14) (arg18.view.read (Elt F) w15) (arg19.view.read (Elt F) w16) (arg20.view.read (Elt F) w17) (arg21.view.read (Elt F) w18)) (Pend.mk (arg22.view.read (Elt F) w19) (arg24.view.read (Elt F) w21) (arg23.view.read (Elt F) w20) (arg25.view.read (Elt F) w22)) (Pend.mk (arg26.view.read (Elt F) w23) (arg28.view.read (Elt F) w25) (arg27.view.read (Elt F) w24) (arg29.view.read (Elt F) w26))) (E : Set ℕ) (Q : PUnit → sProp 𝕄)
    (H : iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (harg16.unread A0.m1) ∗ pt c arg17 (harg17.unread A0.l1) ∗ pt c arg18 (harg18.unread A0.a1) ∗ pt c arg19 (harg19.unread A0.m2) ∗ pt c arg20 (harg20.unread A0.l2) ∗ pt c arg21 (harg21.unread A0.a2) ∗ pt c arg22 (harg22.unread Pa.s1) ∗ pt c arg23 (harg23.unread Pa.s2) ∗ pt c arg24 (harg24.unread Pa.r1) ∗ pt c arg25 (harg25.unread Pa.r2) ∗ pt c arg26 (harg26.unread Pb.s1) ∗ pt c arg27 (harg27.unread Pb.s2) ∗ pt c arg28 (harg28.unread Pb.r1) ∗ pt c arg29 (harg29.unread Pb.r2)
        ∗ (iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 w12 ∗ pt c arg16 w13 ∗ pt c arg17 w14 ∗ pt c arg18 w15 ∗ pt c arg19 w16 ∗ pt c arg20 w17 ∗ pt c arg21 w18 ∗ pt c arg22 w19 ∗ pt c arg23 w20 ∗ pt c arg24 w21 ∗ pt c arg25 w22 ∗ pt c arg26 w23 ∗ pt c arg27 w24 ∗ pt c arg28 w25 ∗ pt c arg29 w26) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q) :
    iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread X12) ∗ (pt c arg16 (harg16.unread A0.m1) ∗ pt c arg17 (harg17.unread A0.l1) ∗ pt c arg18 (harg18.unread A0.a1) ∗ pt c arg19 (harg19.unread A0.m2) ∗ pt c arg20 (harg20.unread A0.l2) ∗ pt c arg21 (harg21.unread A0.a2) ∗ pt c arg22 (harg22.unread Pa.s1) ∗ pt c arg23 (harg23.unread Pa.s2) ∗ pt c arg24 (harg24.unread Pa.r1) ∗ pt c arg25 (harg25.unread Pa.r2) ∗ pt c arg26 (harg26.unread Pb.s1) ∗ pt c arg27 (harg27.unread Pb.s2) ∗ pt c arg28 (harg28.unread Pb.r1) ∗ pt c arg29 (harg29.unread Pb.r2))
        ∗ (iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread Y) ∗ scr c arg16 harg16 arg17 harg17 arg18 harg18 arg19 harg19 arg20 harg20 arg21 harg21 arg22 harg22 arg23 harg23 arg24 harg24 arg25 harg25 arg26 harg26 arg27 harg27 arg28 harg28 arg29 harg29 j a p) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q := by
  iintro ⟨⟨H0, H1, H2, H3, H4, H5, H6, H7, H8, H9, H10, H11⟩, H12, ⟨H13, H14, H15, H16, H17, H18, H19, H20, H21, H22, H23, H24, H25, H26⟩, Hk⟩
  iapply H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H0, H1, H2, H3, H4, H5, H6, H7, H8, H9, H10, H11, H12, H13, H14, H15, H16, H17, H18, H19, H20, H21, H22, H23, H24, H25, H26⟩
  iapply Hk
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · rw [← harg15.eq_unread hY]; iexact H12
  iapply (scr_intro c arg16 harg16 arg17 harg17 arg18 harg18 arg19 harg19 arg20 harg20 arg21 harg21 arg22 harg22 arg23 harg23 arg24 harg24 arg25 harg25 arg26 harg26 arg27 harg27 arg28 harg28 arg29 harg29 j a p w13 w14 w15 w16 w17 w18 w19 w20 w21 w22 w23 w24 w25 w26 hl)
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

end Cert.Proof.I1

end
-- ==== Proof.I.Run0.lean ====
module

public import proofs.«01_k».proof.Proof.I.Scr
public import Idealize.ShloMosaic.Lib.Tactic

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The bucket kernel: one of its two branches runs at every point -/

theorem nz_iff : ∀ v : BitVec 1, (nz v = 1#1 ↔ v = 1#1) ∧ (nz (Scalar.xori v 1#1) = 1#1 ↔ v = 0#1) := by decide

theorem live0 (v1 v3 v7 v9 : BitVec 32) : (!(k0_cond1 v1 v3 v7 v9 == 1#1) && !(k0_cond2 v1 v3 v7 v9 == 1#1)) = false := by
  have h : ∀ v : BitVec 1, (!(nz v == 1#1) && !(nz (Scalar.xori v 1#1) == 1#1)) = false := by decide
  exact h (far v1 v3 v7 v9)

variable (c : Dev nD) (i : grid0.Coords)
    (arg2 : Memref sig .tc .smem S16 .i32) (harg2 : arg2.IsWhole)
    (arg3 : Memref sig .tc .smem S16 .i32) (harg3 : arg3.IsWhole)
    (arg4 : Memref sig .tc .smem S8 .i32) (harg4 : arg4.IsWhole)
    (arg5 : Memref sig .tc .smem S8 .i32) (harg5 : arg5.IsWhole)
    (arg6 : Memref sig .tc .vmem S1x512 .i32) (harg6 : arg6.IsWhole)
    (arg7 : Memref sig .tc .vmem S1024x1 .i32) (harg7 : arg7.IsWhole)
    (arg8 : Memref sig .tc .vmem S1024x512 .i8) (harg8 : arg8.IsWhole)
    (f0 : Bf (F := F) c arg2) (f1 : Bf (F := F) c arg3) (f2 : Bf (F := F) c arg4) (f3 : Bf (F := F) c arg5)
    (X4 : Vec F S1x512 .i32) (X5 : Vec F S1024x1 .i32)

/-- Whether the tile of a point is far, as the bucket kernel reads it from the four tables. -/
noncomputable abbrev cur0 : BitVec 1 :=
  far (wd c arg4 f2 (k0_off1 i) S1.size (k0_off1_inb i) (Shape.Idx.first (numel1_S1.symm ▸ Nat.one_pos)))
    (wd c arg3 f1 (k0_off2 i) S1.size (k0_off2_inb i) (Shape.Idx.first (numel1_S1.symm ▸ Nat.one_pos)))
    (wd c arg5 f3 (k0_off1 i) S1.size (k0_off1_inb i) (Shape.Idx.first (numel1_S1.symm ▸ Nat.one_pos)))
    (wd c arg2 f0 (k0_off2 i) S1.size (k0_off2_inb i) (Shape.Idx.first (numel1_S1.symm ▸ Nat.one_pos)))

/-- The buckets of a tile: all zero for a far one. -/
noncomputable def tile0 : Vec F S1024x512 .i8 := if cur0 c i arg2 arg3 arg4 arg5 f0 f1 f2 f3 = 1#1 then k0_pay1 else k0_pay2 X5 X4

noncomputable abbrev ins0 : sProp 𝕄 :=
  iprop(pt c arg2 f0 ∗ pt c arg3 f1 ∗ pt c arg4 f2 ∗ pt c arg5 f3 ∗ pt c arg6 (harg6.unread X4) ∗ pt c arg7 (harg7.unread X5))

/-- A far tile's point. -/
noncomputable def runFar (hc : cur0 c i arg2 arg3 arg4 arg5 f0 f1 f2 f3 = 1#1) (f8 : Bf (F := F) c arg8) :
    { W : Bf (F := F) c arg8 // ∀ (E : Set ℕ) (Q : PUnit → sProp 𝕄),
      iprop(ins0 c arg2 arg3 arg4 arg5 arg6 harg6 arg7 harg7 f0 f1 f2 f3 X4 X5 ∗ pt c arg8 f8
        ∗ (iprop(ins0 c arg2 arg3 arg4 arg5 arg6 harg6 arg7 harg7 f0 f1 f2 f3 X4 X5 ∗ pt c arg8 W) -∗ Q ⟨⟩))
      ⊢ wp frame (wpE (defs₀ (F := F)) Variants.none c none) E
          (cc0_rel_buckets i arg2 harg2 arg3 harg3 arg4 harg4 arg5 harg5 arg6 harg6 arg7 harg7 arg8 harg8) Q } := by
  have k1 : nz (cur0 c i arg2 arg3 arg4 arg5 f0 f1 f2 f3) = 1#1 := (nz_iff _).1.mpr hc
  have k2 : ¬ nz (Scalar.xori (cur0 c i arg2 arg3 arg4 arg5 f0 f1 f2 f3) 1#1) = 1#1 := fun h =>
    absurd (((nz_iff _).2.mp h).symm.trans hc) (by decide)
  refine ⟨?_, fun E Q => ?run⟩
  case run =>
    iintro ⟨⟨H0, H1, H2, H3, H4, H5⟩, H6, Hk⟩
    sl_exec_parts (disch := first | sl_exact k1 | sl_exact k2)
    sl_step
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    iexact H6

/-- A near tile's point. -/
noncomputable def runNear (hc : cur0 c i arg2 arg3 arg4 arg5 f0 f1 f2 f3 = 0#1) (f8 : Bf (F := F) c arg8) :
    { W : Bf (F := F) c arg8 // ∀ (E : Set ℕ) (Q : PUnit → sProp 𝕄),
      iprop(ins0 c arg2 arg3 arg4 arg5 arg6 harg6 arg7 harg7 f0 f1 f2 f3 X4 X5 ∗ pt c arg8 f8
        ∗ (iprop(ins0 c arg2 arg3 arg4 arg5 arg6 harg6 arg7 harg7 f0 f1 f2 f3 X4 X5 ∗ pt c arg8 W) -∗ Q ⟨⟩))
      ⊢ wp frame (wpE (defs₀ (F := F)) Variants.none c none) E
          (cc0_rel_buckets i arg2 harg2 arg3 harg3 arg4 harg4 arg5 harg5 arg6 harg6 arg7 harg7 arg8 harg8) Q } := by
  have k1 : ¬ nz (cur0 c i arg2 arg3 arg4 arg5 f0 f1 f2 f3) = 1#1 := fun h =>
    absurd (((nz_iff _).1.mp h).symm.trans hc) (by decide)
  have k2 : nz (Scalar.xori (cur0 c i arg2 arg3 arg4 arg5 f0 f1 f2 f3) 1#1) = 1#1 := (nz_iff _).2.mpr hc
  refine ⟨?_, fun E Q => ?run⟩
  case run =>
    iintro ⟨⟨H0, H1, H2, H3, H4, H5⟩, H6, Hk⟩
    sl_exec_parts (disch := first | sl_exact k1 | sl_exact k2)
    sl_step
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    iexact H6

theorem far_eq (hc : cur0 c i arg2 arg3 arg4 arg5 f0 f1 f2 f3 = 1#1) (f8 : Bf (F := F) c arg8) :
    arg8.view.read (Elt F) (runFar c i arg2 harg2 arg3 harg3 arg4 harg4 arg5 harg5 arg6 harg6 arg7 harg7 arg8 harg8 f0 f1 f2 f3 X4 X5 hc f8).1
      = tile0 c i arg2 arg3 arg4 arg5 f0 f1 f2 f3 X4 X5 := by
  unfold tile0
  rw [if_pos hc]
  unfold runFar
  dsimp only
  exact View.read_writes_full _ _ _ _ _

theorem near_eq (hc : cur0 c i arg2 arg3 arg4 arg5 f0 f1 f2 f3 = 0#1) (f8 : Bf (F := F) c arg8) :
    arg8.view.read (Elt F) (runNear c i arg2 harg2 arg3 harg3 arg4 harg4 arg5 harg5 arg6 harg6 arg7 harg7 arg8 harg8 f0 f1 f2 f3 X4 X5 hc f8).1
      = tile0 c i arg2 arg3 arg4 arg5 f0 f1 f2 f3 X4 X5 := by
  unfold tile0
  rw [if_neg (by rw [hc]; decide)]
  have q := congrArg₂ (k0_pay2 (F := F)) (rdFull harg7 X5 inb_S1024x1_S1024x1_0_0) (rdFull harg6 X4 inb_S1x512_S1x512_0_0)
  refine Eq.trans ?_ q
  unfold runNear
  dsimp only
  exact View.read_writes_full _ _ _ _ _

/-- One point of the bucket kernel. -/
theorem point0 (X8 : Vec F S1024x512 .i8) (E : Set ℕ) (Q : PUnit → sProp 𝕄) :
    iprop(ins0 c arg2 arg3 arg4 arg5 arg6 harg6 arg7 harg7 f0 f1 f2 f3 X4 X5 ∗ pt c arg8 (harg8.unread X8)
        ∗ (iprop(ins0 c arg2 arg3 arg4 arg5 arg6 harg6 arg7 harg7 f0 f1 f2 f3 X4 X5
            ∗ pt c arg8 (harg8.unread (tile0 c i arg2 arg3 arg4 arg5 f0 f1 f2 f3 X4 X5))) -∗ Q ⟨⟩))
      ⊢ wp frame (wpE (defs₀ (F := F)) Variants.none c none) E
          (cc0_rel_buckets i arg2 harg2 arg3 harg3 arg4 harg4 arg5 harg5 arg6 harg6 arg7 harg7 arg8 harg8) Q := by
  have hb : ∀ v : BitVec 1, v = 1#1 ∨ v = 0#1 := by decide
  rcases hb (cur0 c i arg2 arg3 arg4 arg5 f0 f1 f2 f3) with hc | hc
  · rw [← harg8.eq_unread (far_eq c i arg2 harg2 arg3 harg3 arg4 harg4 arg5 harg5 arg6 harg6 arg7 harg7 arg8 harg8 f0 f1 f2 f3 X4 X5 hc (harg8.unread X8))]
    exact (runFar c i arg2 harg2 arg3 harg3 arg4 harg4 arg5 harg5 arg6 harg6 arg7 harg7 arg8 harg8 f0 f1 f2 f3 X4 X5 hc _).2 E Q
  · rw [← harg8.eq_unread (near_eq c i arg2 harg2 arg3 harg3 arg4 harg4 arg5 harg5 arg6 harg6 arg7 harg7 arg8 harg8 f0 f1 f2 f3 X4 X5 hc (harg8.unread X8))]
    exact (runNear c i arg2 harg2 arg3 harg3 arg4 harg4 arg5 harg5 arg6 harg6 arg7 harg7 arg8 harg8 f0 f1 f2 f3 X4 X5 hc _).2 E Q

end Cert.Proof.I1

end
-- ==== Proof.I.Region0.lean ====
module

public import proofs.«01_k».proof.Proof.I.Run0

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The bucket kernel's region: its proof data and body obligation -/

theorem pref0_eq (c : Dev nD) (v : pre0.Contents (Elt F)) :
    (Pipeline.prefHeld pre0 c (fun _ => fullShare) v : sProp 𝕄)
      = iprop(pt c (Memref.whole main_v7) (v 0) ∗ pt c (Memref.whole main_v9) (v 1) ∗ pt c (Memref.whole main_v11) (v 2) ∗ pt c (Memref.whole main_v13) (v 3)) :=
  bigSep_univ_eq_bigSepL [(0 : Fin 4), (1 : Fin 4), (2 : Fin 4), (3 : Fin 4)] (by decide) (by decide) _

variable (a : (pcfg0 (F := F)).Adm) (V : Dev nD → Valuation τ sig (Elt F))

/-- The staged query positions and key positions of a point. -/
abbrev in0_0 (c : Dev nD) (t : Fin (cfg0 a).N) : Vec F S1x512 .i32 := (((cfg0 a).win 0).blk t).view.read (Elt F) (V c (Proc.devRef .tc main_v18))
abbrev in0_1 (c : Dev nD) (t : Fin (cfg0 a).N) : Vec F S1024x1 .i32 := (((cfg0 a).win 1).blk t).view.read (Elt F) (V c (Proc.devRef .tc main_v19))

/-- The buckets a point leaves. -/
abbrev out0 (c : Dev nD) (t : Fin (cfg0 a).N) : Vec F S1024x512 .i8 :=
  tile0 c (grid0.coords t) (Memref.whole main_v7) (Memref.whole main_v9) (Memref.whole main_v11) (Memref.whole main_v13)
    (a.1 0) (a.1 1) (a.1 2) (a.1 3) (in0_0 a V c t) (in0_1 a V c t)

def dat0 (c : Dev nD) : Dat τ (Elt F) Unit ℕ (UR sig nD τ) ℕ (cfg0 a) c where
  A w := V c (Proc.devRef .tc (Pipeline.arrRef spec0 w))
  after w t := match w with
    | ⟨0, _⟩ => in0_0 a V c t
    | ⟨1, _⟩ => in0_1 a V c t
    | ⟨2, _⟩ => out0 a V c t
  Φ _ := iprop(Pipeline.scopedRest (Ix := Unit) (Name := ℕ) (U := UR sig nD τ) (Lvl := ℕ) (Val := Elt F) spec0 c ∗ Pipeline.prefHeld pre0 c (fun _ => fullShare) a.1)
  q _ := fullShare
  owed _ := 0

theorem before0_0 (c : Dev nD) (t : Fin (cfg0 a).N) (d) : (dat0 a V c).before 0 t d = in0_0 a V c t :=
  ((dat0 a V c).before_in_eq_fetched 0 rfl (fun _ => rfl) (fun _ _ _ => rfl) (fun _ => rfl) t d).trans
    (by unfold Dat.fetched Dat.blockOf; dsimp only [dat0]; rfl)
theorem before0_1 (c : Dev nD) (t : Fin (cfg0 a).N) (d) : (dat0 a V c).before 1 t d = in0_1 a V c t :=
  ((dat0 a V c).before_in_eq_fetched 1 rfl (fun _ => rfl) (fun _ _ _ => rfl) (fun _ => rfl) t d).trans
    (by unfold Dat.fetched Dat.blockOf; dsimp only [dat0]; rfl)

theorem body0 (c : Dev nD) : BodyObligation (dat0 a V c) (defs₀ (F := F)) Variants.none () Set.univ := fun t => by
  have h2 : (cfg0 a).idle 2 ((cfg0 a).grid.coords t) = false := live0 _ _ _ _
  have h0 : (cfg0 a).idle 0 ((cfg0 a).grid.coords t) = false := rfl
  have h1 : (cfg0 a).idle 1 ((cfg0 a).grid.coords t) = false := rfl
  rw [bigSep_W0, bigSep_W0]
  simp only [h0, h1]
  rw [show idle0 a.1 2 ((pcfg0.gridAt a.1).coords t) = false from h2]
  rw [show (dat0 a V c).owesAt () t.succ = (dat0 a V c).owesAt () t.castSucc from rfl]
  rw [show (dat0 a V c).Φ t.succ = (dat0 a V c).Φ t.castSucc from rfl]
  rw [show (dat0 a V c).Φ t.castSucc = iprop(Pipeline.scopedRest (Ix := Unit) (Name := ℕ) (U := UR sig nD τ) (Lvl := ℕ) (Val := Elt F) spec0 c ∗ Pipeline.prefHeld pre0 c (fun _ => fullShare) a.1) from rfl, pref0_eq]
  have e0 : ∀ d, (owns (c : Thread nD τ) (stage0_0 ((cfg0 a).slots t 0)) fullShare ((dat0 a V c).before 0 t d) : sProp 𝕄) ⊢ pt c (spec0_0.stage ((cfg0 a).slots t 0)) ((hstage0_0 (((cfg0 a).slots t 0).cast nbuf0_0)).unread (in0_0 a V c t)) := fun d => by
    rw [before0_0]; exact Entails.of_eq (own_eq c _ _)
  have e1 : ∀ d, (owns (c : Thread nD τ) (stage0_1 ((cfg0 a).slots t 1)) fullShare ((dat0 a V c).before 1 t d) : sProp 𝕄) ⊢ pt c (spec0_1.stage ((cfg0 a).slots t 1)) ((hstage0_1 (((cfg0 a).slots t 1).cast nbuf0_1)).unread (in0_1 a V c t)) := fun d => by
    rw [before0_1]; exact Entails.of_eq (own_eq c _ _)
  have e2 : ∀ d, (owns (c : Thread nD τ) (stage0_2 ((cfg0 a).slots t 2)) fullShare d : sProp 𝕄) ⊢ pt c (spec0_2.stage ((cfg0 a).slots t 2)) ((hstage0_2 (((cfg0 a).slots t 2).cast nbuf0_2)).unread d) := fun d =>
    Entails.of_eq (own_eq c _ _)
  have g0 : (pt c (spec0_0.stage ((cfg0 a).slots t 0)) ((hstage0_0 (((cfg0 a).slots t 0).cast nbuf0_0)).unread (in0_0 a V c t)) : sProp 𝕄) ⊢ owns (c : Thread nD τ) (stage0_0 ((cfg0 a).slots t 0)) fullShare ((dat0 a V c).after 0 t) :=
    Entails.of_eq (own_eq c _ _).symm
  have g1 : (pt c (spec0_1.stage ((cfg0 a).slots t 1)) ((hstage0_1 (((cfg0 a).slots t 1).cast nbuf0_1)).unread (in0_1 a V c t)) : sProp 𝕄) ⊢ owns (c : Thread nD τ) (stage0_1 ((cfg0 a).slots t 1)) fullShare ((dat0 a V c).after 1 t) :=
    Entails.of_eq (own_eq c _ _).symm
  have g2 : (pt c (spec0_2.stage ((cfg0 a).slots t 2)) ((hstage0_2 (((cfg0 a).slots t 2).cast nbuf0_2)).unread (out0 a V c t)) : sProp 𝕄) ⊢ owns (c : Thread nD τ) (stage0_2 ((cfg0 a).slots t 2)) fullShare ((dat0 a V c).after 2 t) :=
    Entails.of_eq (own_eq c _ _).symm
  iintro ⟨⟨HR, T0, T1, T2, T3⟩, Howes, ⟨%d0, H0⟩, ⟨%d1, H1⟩, ⟨%d2, H2⟩⟩
  ihave H0' := (e0 d0) $$ H0
  ihave H1' := (e1 d1) $$ H1
  ihave H2' := (e2 _) $$ H2
  iapply (point0 c (grid0.coords t) (Memref.whole main_v7) (Memref.isWhole_whole _) (Memref.whole main_v9) (Memref.isWhole_whole _) (Memref.whole main_v11) (Memref.isWhole_whole _) (Memref.whole main_v13) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))
    (a.1 0) (a.1 1) (a.1 2) (a.1 3) (in0_0 a V c t) (in0_1 a V c t) _ Set.univ _)
  isplitl [T0 T1 T2 T3 H0' H1']
  · isplitl [T0]; · iexact T0
    isplitl [T1]; · iexact T1
    isplitl [T2]; · iexact T2
    isplitl [T3]; · iexact T3
    isplitl [H0']; · iexact H0'
    iexact H1'
  isplitl [H2']; · iexact H2'
  iintro ⟨⟨T0, T1, T2, T3, H0, H1⟩, H2⟩
  isplitl [HR T0 T1 T2 T3]
  · isplitl [HR]; · iexact HR
    isplitl [T0]; · iexact T0
    isplitl [T1]; · iexact T1
    isplitl [T2]; · iexact T2
    iexact T3
  isplitl [Howes]; · iexact Howes
  isplitl [H0]; · iapply g0; iexact H0
  isplitl [H1]; · iapply g1; iexact H1
  iapply g2; iexact H2

end Cert.Proof.I1

end
-- ==== Proof.I.RunS1.lean ====
module

public import proofs.«01_k».proof.Proof.Gen.KernelIdeal.Launch
public import proofs.«01_k».proof.Proof.Gen.KernelIdeal.Skeleton
public import proofs.«01_k».proof.Proof.I.Cond

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The attention's body at the first key tile, one bias for all of it: what it leaves, with the proof that it does. -/
def runS1 (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)
    (hj : (i 2).val = 0) (hc : cur c i arg3 arg4 arg5 arg6 f0 f1 f2 f3 = 1#1) :
    { W : Bf (F := F) c arg16 × Bf (F := F) c arg17 × Bf (F := F) c arg18 × Bf (F := F) c arg19 × Bf (F := F) c arg20 × Bf (F := F) c arg21 × Bf (F := F) c arg22 × Bf (F := F) c arg23 × Bf (F := F) c arg24 × Bf (F := F) c arg25 //
      ∀ (E : Set ℕ) (Q : PUnit → sProp 𝕄),
    iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (harg16.unread X13) ∗ pt c arg17 (harg17.unread X14) ∗ pt c arg18 (harg18.unread X15) ∗ pt c arg19 (harg19.unread X16) ∗ pt c arg20 (harg20.unread X17) ∗ pt c arg21 (harg21.unread X18) ∗ pt c arg22 (harg22.unread X19) ∗ pt c arg23 (harg23.unread X20) ∗ pt c arg24 (harg24.unread X21) ∗ pt c arg25 (harg25.unread X22) ∗ pt c arg26 (harg26.unread X23) ∗ pt c arg27 (harg27.unread X24) ∗ pt c arg28 (harg28.unread X25) ∗ pt c arg29 (harg29.unread X26)
      ∗ (iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (W.1) ∗ pt c arg17 (W.2.1) ∗ pt c arg18 (W.2.2.1) ∗ pt c arg19 (W.2.2.2.1) ∗ pt c arg20 (W.2.2.2.2.1) ∗ pt c arg21 (W.2.2.2.2.2.1) ∗ pt c arg22 (W.2.2.2.2.2.2.1) ∗ pt c arg23 (W.2.2.2.2.2.2.2.1) ∗ pt c arg24 (W.2.2.2.2.2.2.2.2.1) ∗ pt c arg25 (W.2.2.2.2.2.2.2.2.2) ∗ pt c arg26 (harg26.unread X23) ∗ pt c arg27 (harg27.unread X24) ∗ pt c arg28 (harg28.unread X25) ∗ pt c arg29 (harg29.unread X26)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q } := by
  have hk := conds (i 2) (cur c i arg3 arg4 arg5 arg6 f0 f1 f2 f3)
  have kc33 : c33 (i 2).val (cur c i arg3 arg4 arg5 arg6 f0 f1 f2 f3) = 1#1 := (hk.1).mpr ⟨hj, hc⟩
  have kc37 : ¬ c37 (i 2).val (cur c i arg3 arg4 arg5 arg6 f0 f1 f2 f3) = 1#1 := fun h => by have h1 := (hk.2.1).mp h; rw [hc] at h1; first | exact absurd h1.2 (by decide) | omega
  have kc55 : ¬ c55 (i 2).val (cur c i arg3 arg4 arg5 arg6 f0 f1 f2 f3) = 1#1 := fun h => by have h1 := (hk.2.2.1).mp h; rw [hc] at h1; first | exact absurd h1.2 (by decide) | omega
  have kc58 : ¬ c58 (i 2).val (cur c i arg3 arg4 arg5 arg6 f0 f1 f2 f3) = 1#1 := fun h => by have h1 := (hk.2.2.2.1).mp h; rw [hc] at h1; first | exact absurd h1.2 (by decide) | omega
  have kc73 : ¬ c73 (i 2).val (cur c i arg3 arg4 arg5 arg6 f0 f1 f2 f3) = 1#1 := fun h => by have h1 := (hk.2.2.2.2.1).mp h; rw [hc] at h1; first | exact absurd h1.2 (by decide) | omega
  have kc76 : ¬ c76 (i 2).val (cur c i arg3 arg4 arg5 arg6 f0 f1 f2 f3) = 1#1 := fun h => by have h1 := (hk.2.2.2.2.2).mp h; rw [hc] at h1; first | exact absurd h1.2 (by decide) | omega
  have k7 : ¬ k1_cond7 i = 1#1 := fun h => by have := (cond7 i).mp h; omega
  clear hk
  refine ⟨⟨?_, ?_, ?_, ?_, ?_, ?_, ?_, ?_, ?_, ?_⟩, fun E Q => ?run⟩
  case run =>
    iintro ⟨H0, H1, H2, H3, H4, H5, H6, H7, H8, H9, H10, H11, H12, H13, H14, H15, H16, H17, H18, H19, H20, H21, H22, H23, H24, H25, H26, Hk⟩
    sl_exec_parts (disch := first | sl_exact kc33 | sl_exact kc37 | sl_exact kc55 | sl_exact kc58 | sl_exact kc73 | sl_exact kc76 | sl_exact k7)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

end Cert.Proof.I1

end
-- ==== Proof.I.EqS1.lean ====
module

public import proofs.«01_k».proof.Proof.Gen.KernelIdeal.Launch
public import proofs.«01_k».proof.Proof.Gen.KernelIdeal.Skeleton
public import proofs.«01_k».proof.Proof.I.RunS1
public import proofs.«01_k».proof.Proof.I.Step

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)

set_option maxHeartbeats 0 in
/-- The body at the first key tile, one bias for all of it: what it leaves, read. -/
theorem eqS1 (hj : (i 2).val = 0) (hc : cur c i arg3 arg4 arg5 arg6 f0 f1 f2 f3 = 1#1)
    (W : Bf (F := F) c arg16 × Bf (F := F) c arg17 × Bf (F := F) c arg18 × Bf (F := F) c arg19 × Bf (F := F) c arg20 × Bf (F := F) c arg21 × Bf (F := F) c arg22 × Bf (F := F) c arg23 × Bf (F := F) c arg24 × Bf (F := F) c arg25) (hW : W = (runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 X13 X14 X15 X16 X17 X18 X19 X20 X21 X22 X23 X24 X25 X26 hj hc).1) :
    Acc.mk (arg16.view.read (Elt F) W.1) (arg17.view.read (Elt F) W.2.1) (arg18.view.read (Elt F) W.2.2.1) (arg19.view.read (Elt F) W.2.2.2.1) (arg20.view.read (Elt F) W.2.2.2.2.1) (arg21.view.read (Elt F) W.2.2.2.2.2.1) = acc0
      ∧ Pend.mk (arg22.view.read (Elt F) W.2.2.2.2.2.2.1) (arg24.view.read (Elt F) W.2.2.2.2.2.2.2.2.1) (arg23.view.read (Elt F) W.2.2.2.2.2.2.2.1) (arg25.view.read (Elt F) W.2.2.2.2.2.2.2.2.2) = farPend X9 X10 := by
  have q : (acc0 : Acc F) = acc0 := rfl
  have q2 := congrArg₂ farPend (harg12.read_unread X9) (harg13.read_unread X10)
  subst hW
  unfold runS1
  dsimp only
  refine ⟨Eq.trans (acc_ext ?_ ?_ ?_ ?_ ?_ ?_) q, Eq.trans (pend_ext ?_ ?_ ?_ ?_) q2⟩
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    unfold farPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl
  · refine (View.read_writes_full _ _ _ _ _).trans ?_
    rfl
  · refine (View.read_writes_full _ _ _ _ _).trans ?_
    unfold farPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl

end Cert.Proof.I1

end
-- ==== Proof.I.RunS0.lean ====
module

public import proofs.«01_k».proof.Proof.Gen.KernelIdeal.Launch
public import proofs.«01_k».proof.Proof.Gen.KernelIdeal.Skeleton
public import proofs.«01_k».proof.Proof.I.Cond

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The attention's body at the first key tile, a bias for each distance: what it leaves, with the proof that it does. -/
def runS0 (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)
    (hj : (i 2).val = 0) (hc : cur c i arg3 arg4 arg5 arg6 f0 f1 f2 f3 = 0#1) :
    { W : Bf (F := F) c arg16 × Bf (F := F) c arg17 × Bf (F := F) c arg18 × Bf (F := F) c arg19 × Bf (F := F) c arg20 × Bf (F := F) c arg21 × Bf (F := F) c arg22 × Bf (F := F) c arg23 × Bf (F := F) c arg24 × Bf (F := F) c arg25 //
      ∀ (E : Set ℕ) (Q : PUnit → sProp 𝕄),
    iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (harg16.unread X13) ∗ pt c arg17 (harg17.unread X14) ∗ pt c arg18 (harg18.unread X15) ∗ pt c arg19 (harg19.unread X16) ∗ pt c arg20 (harg20.unread X17) ∗ pt c arg21 (harg21.unread X18) ∗ pt c arg22 (harg22.unread X19) ∗ pt c arg23 (harg23.unread X20) ∗ pt c arg24 (harg24.unread X21) ∗ pt c arg25 (harg25.unread X22) ∗ pt c arg26 (harg26.unread X23) ∗ pt c arg27 (harg27.unread X24) ∗ pt c arg28 (harg28.unread X25) ∗ pt c arg29 (harg29.unread X26)
      ∗ (iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (W.1) ∗ pt c arg17 (W.2.1) ∗ pt c arg18 (W.2.2.1) ∗ pt c arg19 (W.2.2.2.1) ∗ pt c arg20 (W.2.2.2.2.1) ∗ pt c arg21 (W.2.2.2.2.2.1) ∗ pt c arg22 (W.2.2.2.2.2.2.1) ∗ pt c arg23 (W.2.2.2.2.2.2.2.1) ∗ pt c arg24 (W.2.2.2.2.2.2.2.2.1) ∗ pt c arg25 (W.2.2.2.2.2.2.2.2.2) ∗ pt c arg26 (harg26.unread X23) ∗ pt c arg27 (harg27.unread X24) ∗ pt c arg28 (harg28.unread X25) ∗ pt c arg29 (harg29.unread X26)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q } := by
  have hk := conds (i 2) (cur c i arg3 arg4 arg5 arg6 f0 f1 f2 f3)
  have kc33 : ¬ c33 (i 2).val (cur c i arg3 arg4 arg5 arg6 f0 f1 f2 f3) = 1#1 := fun h => by have h1 := (hk.1).mp h; rw [hc] at h1; first | exact absurd h1.2 (by decide) | omega
  have kc37 : c37 (i 2).val (cur c i arg3 arg4 arg5 arg6 f0 f1 f2 f3) = 1#1 := (hk.2.1).mpr ⟨hj, hc⟩
  have kc55 : ¬ c55 (i 2).val (cur c i arg3 arg4 arg5 arg6 f0 f1 f2 f3) = 1#1 := fun h => by have h1 := (hk.2.2.1).mp h; rw [hc] at h1; first | exact absurd h1.2 (by decide) | omega
  have kc58 : ¬ c58 (i 2).val (cur c i arg3 arg4 arg5 arg6 f0 f1 f2 f3) = 1#1 := fun h => by have h1 := (hk.2.2.2.1).mp h; rw [hc] at h1; first | exact absurd h1.2 (by decide) | omega
  have kc73 : ¬ c73 (i 2).val (cur c i arg3 arg4 arg5 arg6 f0 f1 f2 f3) = 1#1 := fun h => by have h1 := (hk.2.2.2.2.1).mp h; rw [hc] at h1; first | exact absurd h1.2 (by decide) | omega
  have kc76 : ¬ c76 (i 2).val (cur c i arg3 arg4 arg5 arg6 f0 f1 f2 f3) = 1#1 := fun h => by have h1 := (hk.2.2.2.2.2).mp h; rw [hc] at h1; first | exact absurd h1.2 (by decide) | omega
  have k7 : ¬ k1_cond7 i = 1#1 := fun h => by have := (cond7 i).mp h; omega
  clear hk
  refine ⟨⟨?_, ?_, ?_, ?_, ?_, ?_, ?_, ?_, ?_, ?_⟩, fun E Q => ?run⟩
  case run =>
    iintro ⟨H0, H1, H2, H3, H4, H5, H6, H7, H8, H9, H10, H11, H12, H13, H14, H15, H16, H17, H18, H19, H20, H21, H22, H23, H24, H25, H26, Hk⟩
    sl_exec_parts (disch := first | sl_exact kc33 | sl_exact kc37 | sl_exact kc55 | sl_exact kc58 | sl_exact kc73 | sl_exact kc76 | sl_exact k7)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

end Cert.Proof.I1

end
-- ==== Proof.I.EqS0.lean ====
module

public import proofs.«01_k».proof.Proof.Gen.KernelIdeal.Launch
public import proofs.«01_k».proof.Proof.Gen.KernelIdeal.Skeleton
public import proofs.«01_k».proof.Proof.I.RunS0
public import proofs.«01_k».proof.Proof.I.Step

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)

set_option maxHeartbeats 0 in
/-- The body at the first key tile, a bias for each distance: what it leaves, read. -/
theorem eqS0 (hj : (i 2).val = 0) (hc : cur c i arg3 arg4 arg5 arg6 f0 f1 f2 f3 = 0#1)
    (W : Bf (F := F) c arg16 × Bf (F := F) c arg17 × Bf (F := F) c arg18 × Bf (F := F) c arg19 × Bf (F := F) c arg20 × Bf (F := F) c arg21 × Bf (F := F) c arg22 × Bf (F := F) c arg23 × Bf (F := F) c arg24 × Bf (F := F) c arg25) (hW : W = (runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 X13 X14 X15 X16 X17 X18 X19 X20 X21 X22 X23 X24 X25 X26 hj hc).1) :
    Acc.mk (arg16.view.read (Elt F) W.1) (arg17.view.read (Elt F) W.2.1) (arg18.view.read (Elt F) W.2.2.1) (arg19.view.read (Elt F) W.2.2.2.1) (arg20.view.read (Elt F) W.2.2.2.2.1) (arg21.view.read (Elt F) W.2.2.2.2.2.1) = acc0
      ∧ Pend.mk (arg22.view.read (Elt F) W.2.2.2.2.2.2.1) (arg24.view.read (Elt F) W.2.2.2.2.2.2.2.2.1) (arg23.view.read (Elt F) W.2.2.2.2.2.2.2.1) (arg25.view.read (Elt F) W.2.2.2.2.2.2.2.2.2) = nearPend (blk (e := .f32) X6 (k1_off5 i) S1x128.size (k1_off5_inb i)) X7 X9 X10 := by
  have q : (acc0 : Acc F) = acc0 := rfl
  have q2 := near_congr (k1_off5 i) (k1_off5_inb i) (harg9.read_unread X6) (harg10.read_unread X7) (harg12.read_unread X9) (harg13.read_unread X10)
  subst hW
  unfold runS0
  dsimp only
  refine ⟨Eq.trans (acc_ext ?_ ?_ ?_ ?_ ?_ ?_) q, Eq.trans (pend_ext ?_ ?_ ?_ ?_) q2⟩
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    unfold nearPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl
  · refine (View.read_writes_full _ _ _ _ _).trans ?_
    rfl
  · refine (View.read_writes_full _ _ _ _ _).trans ?_
    unfold nearPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl

end Cert.Proof.I1

end
-- ==== Proof.I.RunE1.lean ====
module

public import proofs.«01_k».proof.Proof.Gen.KernelIdeal.Launch
public import proofs.«01_k».proof.Proof.Gen.KernelIdeal.Skeleton
public import proofs.«01_k».proof.Proof.I.Cond

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The attention's body at an even inner key tile, one bias for all of it: what it leaves, with the proof that it does. -/
def runE1 (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)
    (hj : 0 < (i 2).val ∧ (i 2).val < 8 ∧ (i 2).val % 2 = 0) (hc : cur c i arg3 arg4 arg5 arg6 f0 f1 f2 f3 = 1#1) :
    { W : Bf (F := F) c arg16 × Bf (F := F) c arg17 × Bf (F := F) c arg18 × Bf (F := F) c arg19 × Bf (F := F) c arg20 × Bf (F := F) c arg21 × Bf (F := F) c arg22 × Bf (F := F) c arg23 × Bf (F := F) c arg24 × Bf (F := F) c arg25 //
      ∀ (E : Set ℕ) (Q : PUnit → sProp 𝕄),
    iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (harg16.unread X13) ∗ pt c arg17 (harg17.unread X14) ∗ pt c arg18 (harg18.unread X15) ∗ pt c arg19 (harg19.unread X16) ∗ pt c arg20 (harg20.unread X17) ∗ pt c arg21 (harg21.unread X18) ∗ pt c arg22 (harg22.unread X19) ∗ pt c arg23 (harg23.unread X20) ∗ pt c arg24 (harg24.unread X21) ∗ pt c arg25 (harg25.unread X22) ∗ pt c arg26 (harg26.unread X23) ∗ pt c arg27 (harg27.unread X24) ∗ pt c arg28 (harg28.unread X25) ∗ pt c arg29 (harg29.unread X26)
      ∗ (iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (W.1) ∗ pt c arg17 (W.2.1) ∗ pt c arg18 (W.2.2.1) ∗ pt c arg19 (W.2.2.2.1) ∗ pt c arg20 (W.2.2.2.2.1) ∗ pt c arg21 (W.2.2.2.2.2.1) ∗ pt c arg22 (W.2.2.2.2.2.2.1) ∗ pt c arg23 (W.2.2.2.2.2.2.2.1) ∗ pt c arg24 (W.2.2.2.2.2.2.2.2.1) ∗ pt c arg25 (W.2.2.2.2.2.2.2.2.2) ∗ pt c arg26 (harg26.unread X23) ∗ pt c arg27 (harg27.unread X24) ∗ pt c arg28 (harg28.unread X25) ∗ pt c arg29 (harg29.unread X26)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q } := by
  have hk := conds (i 2) (cur c i arg3 arg4 arg5 arg6 f0 f1 f2 f3)
  have kc33 : ¬ c33 (i 2).val (cur c i arg3 arg4 arg5 arg6 f0 f1 f2 f3) = 1#1 := fun h => by have h1 := (hk.1).mp h; rw [hc] at h1; first | exact absurd h1.2 (by decide) | omega
  have kc37 : ¬ c37 (i 2).val (cur c i arg3 arg4 arg5 arg6 f0 f1 f2 f3) = 1#1 := fun h => by have h1 := (hk.2.1).mp h; rw [hc] at h1; first | exact absurd h1.2 (by decide) | omega
  have kc55 : c55 (i 2).val (cur c i arg3 arg4 arg5 arg6 f0 f1 f2 f3) = 1#1 := (hk.2.2.1).mpr ⟨hj, hc⟩
  have kc58 : ¬ c58 (i 2).val (cur c i arg3 arg4 arg5 arg6 f0 f1 f2 f3) = 1#1 := fun h => by have h1 := (hk.2.2.2.1).mp h; rw [hc] at h1; first | exact absurd h1.2 (by decide) | omega
  have kc73 : ¬ c73 (i 2).val (cur c i arg3 arg4 arg5 arg6 f0 f1 f2 f3) = 1#1 := fun h => by have h1 := (hk.2.2.2.2.1).mp h; rw [hc] at h1; first | exact absurd h1.2 (by decide) | omega
  have kc76 : ¬ c76 (i 2).val (cur c i arg3 arg4 arg5 arg6 f0 f1 f2 f3) = 1#1 := fun h => by have h1 := (hk.2.2.2.2.2).mp h; rw [hc] at h1; first | exact absurd h1.2 (by decide) | omega
  have k7 : ¬ k1_cond7 i = 1#1 := fun h => by have := (cond7 i).mp h; omega
  clear hk
  refine ⟨⟨?_, ?_, ?_, ?_, ?_, ?_, ?_, ?_, ?_, ?_⟩, fun E Q => ?run⟩
  case run =>
    iintro ⟨H0, H1, H2, H3, H4, H5, H6, H7, H8, H9, H10, H11, H12, H13, H14, H15, H16, H17, H18, H19, H20, H21, H22, H23, H24, H25, H26, Hk⟩
    sl_exec_parts (disch := first | sl_exact kc33 | sl_exact kc37 | sl_exact kc55 | sl_exact kc58 | sl_exact kc73 | sl_exact kc76 | sl_exact k7)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

end Cert.Proof.I1

end
-- ==== Proof.I.EqE1.lean ====
module

public import proofs.«01_k».proof.Proof.Gen.KernelIdeal.Launch
public import proofs.«01_k».proof.Proof.Gen.KernelIdeal.Skeleton
public import proofs.«01_k».proof.Proof.I.RunE1
public import proofs.«01_k».proof.Proof.I.Step

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)

set_option maxHeartbeats 0 in
/-- The body at an even inner key tile, one bias for all of it: what it leaves, read. -/
theorem eqE1 (hj : 0 < (i 2).val ∧ (i 2).val < 8 ∧ (i 2).val % 2 = 0) (hc : cur c i arg3 arg4 arg5 arg6 f0 f1 f2 f3 = 1#1)
    (W : Bf (F := F) c arg16 × Bf (F := F) c arg17 × Bf (F := F) c arg18 × Bf (F := F) c arg19 × Bf (F := F) c arg20 × Bf (F := F) c arg21 × Bf (F := F) c arg22 × Bf (F := F) c arg23 × Bf (F := F) c arg24 × Bf (F := F) c arg25) (hW : W = (runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 X13 X14 X15 X16 X17 X18 X19 X20 X21 X22 X23 X24 X25 X26 hj hc).1) :
    Acc.mk (arg16.view.read (Elt F) W.1) (arg17.view.read (Elt F) W.2.1) (arg18.view.read (Elt F) W.2.2.1) (arg19.view.read (Elt F) W.2.2.2.1) (arg20.view.read (Elt F) W.2.2.2.2.1) (arg21.view.read (Elt F) W.2.2.2.2.2.1) = accNew (biasAt c i arg3 arg4 arg5 arg6 f0 f1 f2 f3 (word1 X5 (k1_off6 i) (k1_off6_inb i)) (word1 X5 (k1_off7 i) (k1_off7_inb i))) (Pend.mk X23 X25 X24 X26) X11 (Acc.mk X13 X14 X15 X16 X17 X18)
      ∧ Pend.mk (arg22.view.read (Elt F) W.2.2.2.2.2.2.1) (arg24.view.read (Elt F) W.2.2.2.2.2.2.2.2.1) (arg23.view.read (Elt F) W.2.2.2.2.2.2.2.1) (arg25.view.read (Elt F) W.2.2.2.2.2.2.2.2.2) = farPend X9 X10 := by
  have q := acc_congr (bias_congr c i arg3 arg4 arg5 arg6 f0 f1 f2 f3 (rdWord harg8 X5 (k1_off6 i) (k1_off6_inb i)) (rdWord harg8 X5 (k1_off7 i) (k1_off7_inb i))) (harg26.read_unread X23) (rdFull harg28 X25 inb_S1x512_S1x512_0_0) (harg27.read_unread X24) (rdFull harg29 X26 inb_S1x512_S1x512_0_0) (rdFull harg14 X11 inb_S256x1024_S256x1024_0_0) (rdFull harg16 X13 inb_S1x512_S1x512_0_0) (rdFull harg17 X14 inb_S1x512_S1x512_0_0) (rdFull harg18 X15 inb_S256x512_S256x512_0_0) (rdFull harg19 X16 inb_S1x512_S1x512_0_0) (rdFull harg20 X17 inb_S1x512_S1x512_0_0) (rdFull harg21 X18 inb_S256x512_S256x512_0_0)
  have q2 := congrArg₂ farPend (harg12.read_unread X9) (harg13.read_unread X10)
  subst hW
  unfold runE1
  dsimp only
  refine ⟨Eq.trans (acc_ext ?_ ?_ ?_ ?_ ?_ ?_) q, Eq.trans (pend_ext ?_ ?_ ?_ ?_) q2⟩
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    unfold farPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl
  · refine (View.read_writes_full _ _ _ _ _).trans ?_
    rfl
  · refine (View.read_writes_full _ _ _ _ _).trans ?_
    unfold farPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl

end Cert.Proof.I1

end
-- ==== Proof.I.RunE0.lean ====
module

public import proofs.«01_k».proof.Proof.Gen.KernelIdeal.Launch
public import proofs.«01_k».proof.Proof.Gen.KernelIdeal.Skeleton
public import proofs.«01_k».proof.Proof.I.Cond

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The attention's body at an even inner key tile, a bias for each distance: what it leaves, with the proof that it does. -/
def runE0 (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)
    (hj : 0 < (i 2).val ∧ (i 2).val < 8 ∧ (i 2).val % 2 = 0) (hc : cur c i arg3 arg4 arg5 arg6 f0 f1 f2 f3 = 0#1) :
    { W : Bf (F := F) c arg16 × Bf (F := F) c arg17 × Bf (F := F) c arg18 × Bf (F := F) c arg19 × Bf (F := F) c arg20 × Bf (F := F) c arg21 × Bf (F := F) c arg22 × Bf (F := F) c arg23 × Bf (F := F) c arg24 × Bf (F := F) c arg25 //
      ∀ (E : Set ℕ) (Q : PUnit → sProp 𝕄),
    iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (harg16.unread X13) ∗ pt c arg17 (harg17.unread X14) ∗ pt c arg18 (harg18.unread X15) ∗ pt c arg19 (harg19.unread X16) ∗ pt c arg20 (harg20.unread X17) ∗ pt c arg21 (harg21.unread X18) ∗ pt c arg22 (harg22.unread X19) ∗ pt c arg23 (harg23.unread X20) ∗ pt c arg24 (harg24.unread X21) ∗ pt c arg25 (harg25.unread X22) ∗ pt c arg26 (harg26.unread X23) ∗ pt c arg27 (harg27.unread X24) ∗ pt c arg28 (harg28.unread X25) ∗ pt c arg29 (harg29.unread X26)
      ∗ (iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (W.1) ∗ pt c arg17 (W.2.1) ∗ pt c arg18 (W.2.2.1) ∗ pt c arg19 (W.2.2.2.1) ∗ pt c arg20 (W.2.2.2.2.1) ∗ pt c arg21 (W.2.2.2.2.2.1) ∗ pt c arg22 (W.2.2.2.2.2.2.1) ∗ pt c arg23 (W.2.2.2.2.2.2.2.1) ∗ pt c arg24 (W.2.2.2.2.2.2.2.2.1) ∗ pt c arg25 (W.2.2.2.2.2.2.2.2.2) ∗ pt c arg26 (harg26.unread X23) ∗ pt c arg27 (harg27.unread X24) ∗ pt c arg28 (harg28.unread X25) ∗ pt c arg29 (harg29.unread X26)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q } := by
  have hk := conds (i 2) (cur c i arg3 arg4 arg5 arg6 f0 f1 f2 f3)
  have kc33 : ¬ c33 (i 2).val (cur c i arg3 arg4 arg5 arg6 f0 f1 f2 f3) = 1#1 := fun h => by have h1 := (hk.1).mp h; rw [hc] at h1; first | exact absurd h1.2 (by decide) | omega
  have kc37 : ¬ c37 (i 2).val (cur c i arg3 arg4 arg5 arg6 f0 f1 f2 f3) = 1#1 := fun h => by have h1 := (hk.2.1).mp h; rw [hc] at h1; first | exact absurd h1.2 (by decide) | omega
  have kc55 : ¬ c55 (i 2).val (cur c i arg3 arg4 arg5 arg6 f0 f1 f2 f3) = 1#1 := fun h => by have h1 := (hk.2.2.1).mp h; rw [hc] at h1; first | exact absurd h1.2 (by decide) | omega
  have kc58 : c58 (i 2).val (cur c i arg3 arg4 arg5 arg6 f0 f1 f2 f3) = 1#1 := (hk.2.2.2.1).mpr ⟨hj, hc⟩
  have kc73 : ¬ c73 (i 2).val (cur c i arg3 arg4 arg5 arg6 f0 f1 f2 f3) = 1#1 := fun h => by have h1 := (hk.2.2.2.2.1).mp h; rw [hc] at h1; first | exact absurd h1.2 (by decide) | omega
  have kc76 : ¬ c76 (i 2).val (cur c i arg3 arg4 arg5 arg6 f0 f1 f2 f3) = 1#1 := fun h => by have h1 := (hk.2.2.2.2.2).mp h; rw [hc] at h1; first | exact absurd h1.2 (by decide) | omega
  have k7 : ¬ k1_cond7 i = 1#1 := fun h => by have := (cond7 i).mp h; omega
  clear hk
  refine ⟨⟨?_, ?_, ?_, ?_, ?_, ?_, ?_, ?_, ?_, ?_⟩, fun E Q => ?run⟩
  case run =>
    iintro ⟨H0, H1, H2, H3, H4, H5, H6, H7, H8, H9, H10, H11, H12, H13, H14, H15, H16, H17, H18, H19, H20, H21, H22, H23, H24, H25, H26, Hk⟩
    sl_exec_parts (disch := first | sl_exact kc33 | sl_exact kc37 | sl_exact kc55 | sl_exact kc58 | sl_exact kc73 | sl_exact kc76 | sl_exact k7)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

end Cert.Proof.I1

end
-- ==== Proof.I.EqE0.lean ====
module

public import proofs.«01_k».proof.Proof.Gen.KernelIdeal.Launch
public import proofs.«01_k».proof.Proof.Gen.KernelIdeal.Skeleton
public import proofs.«01_k».proof.Proof.I.RunE0
public import proofs.«01_k».proof.Proof.I.Step

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)

set_option maxHeartbeats 0 in
/-- The body at an even inner key tile, a bias for each distance: what it leaves, read. -/
theorem eqE0 (hj : 0 < (i 2).val ∧ (i 2).val < 8 ∧ (i 2).val % 2 = 0) (hc : cur c i arg3 arg4 arg5 arg6 f0 f1 f2 f3 = 0#1)
    (W : Bf (F := F) c arg16 × Bf (F := F) c arg17 × Bf (F := F) c arg18 × Bf (F := F) c arg19 × Bf (F := F) c arg20 × Bf (F := F) c arg21 × Bf (F := F) c arg22 × Bf (F := F) c arg23 × Bf (F := F) c arg24 × Bf (F := F) c arg25) (hW : W = (runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 X13 X14 X15 X16 X17 X18 X19 X20 X21 X22 X23 X24 X25 X26 hj hc).1) :
    Acc.mk (arg16.view.read (Elt F) W.1) (arg17.view.read (Elt F) W.2.1) (arg18.view.read (Elt F) W.2.2.1) (arg19.view.read (Elt F) W.2.2.2.1) (arg20.view.read (Elt F) W.2.2.2.2.1) (arg21.view.read (Elt F) W.2.2.2.2.2.1) = accNew (biasAt c i arg3 arg4 arg5 arg6 f0 f1 f2 f3 (word1 X5 (k1_off6 i) (k1_off6_inb i)) (word1 X5 (k1_off7 i) (k1_off7_inb i))) (Pend.mk X23 X25 X24 X26) X11 (Acc.mk X13 X14 X15 X16 X17 X18)
      ∧ Pend.mk (arg22.view.read (Elt F) W.2.2.2.2.2.2.1) (arg24.view.read (Elt F) W.2.2.2.2.2.2.2.2.1) (arg23.view.read (Elt F) W.2.2.2.2.2.2.2.1) (arg25.view.read (Elt F) W.2.2.2.2.2.2.2.2.2) = nearPend (blk (e := .f32) X6 (k1_off5 i) S1x128.size (k1_off5_inb i)) X7 X9 X10 := by
  have q := acc_congr (bias_congr c i arg3 arg4 arg5 arg6 f0 f1 f2 f3 (rdWord harg8 X5 (k1_off9 i) (k1_off9_inb i)) (rdWord harg8 X5 (k1_off10 i) (k1_off10_inb i))) (harg26.read_unread X23) (rdFull harg28 X25 inb_S1x512_S1x512_0_0) (harg27.read_unread X24) (rdFull harg29 X26 inb_S1x512_S1x512_0_0) (rdFull harg14 X11 inb_S256x1024_S256x1024_0_0) (rdFull harg16 X13 inb_S1x512_S1x512_0_0) (rdFull harg17 X14 inb_S1x512_S1x512_0_0) (rdFull harg18 X15 inb_S256x512_S256x512_0_0) (rdFull harg19 X16 inb_S1x512_S1x512_0_0) (rdFull harg20 X17 inb_S1x512_S1x512_0_0) (rdFull harg21 X18 inb_S256x512_S256x512_0_0)
  have q2 := near_congr (k1_off8 i) (k1_off8_inb i) (harg9.read_unread X6) (harg10.read_unread X7) (harg12.read_unread X9) (harg13.read_unread X10)
  subst hW
  unfold runE0
  dsimp only
  refine ⟨Eq.trans (acc_ext ?_ ?_ ?_ ?_ ?_ ?_) q, Eq.trans (pend_ext ?_ ?_ ?_ ?_) q2⟩
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    unfold nearPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl
  · refine (View.read_writes_full _ _ _ _ _).trans ?_
    rfl
  · refine (View.read_writes_full _ _ _ _ _).trans ?_
    unfold nearPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl

end Cert.Proof.I1

end
-- ==== Proof.I.RunO1.lean ====
module

public import proofs.«01_k».proof.Proof.Gen.KernelIdeal.Launch
public import proofs.«01_k».proof.Proof.Gen.KernelIdeal.Skeleton
public import proofs.«01_k».proof.Proof.I.Cond

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The attention's body at an odd key tile, one bias for all of it: what it leaves, with the proof that it does. -/
def runO1 (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)
    (hj : 0 < (i 2).val ∧ (i 2).val < 8 ∧ (i 2).val % 2 = 1) (hc : cur c i arg3 arg4 arg5 arg6 f0 f1 f2 f3 = 1#1) :
    { W : Bf (F := F) c arg16 × Bf (F := F) c arg17 × Bf (F := F) c arg18 × Bf (F := F) c arg19 × Bf (F := F) c arg20 × Bf (F := F) c arg21 × Bf (F := F) c arg26 × Bf (F := F) c arg27 × Bf (F := F) c arg28 × Bf (F := F) c arg29 //
      ∀ (E : Set ℕ) (Q : PUnit → sProp 𝕄),
    iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (harg16.unread X13) ∗ pt c arg17 (harg17.unread X14) ∗ pt c arg18 (harg18.unread X15) ∗ pt c arg19 (harg19.unread X16) ∗ pt c arg20 (harg20.unread X17) ∗ pt c arg21 (harg21.unread X18) ∗ pt c arg22 (harg22.unread X19) ∗ pt c arg23 (harg23.unread X20) ∗ pt c arg24 (harg24.unread X21) ∗ pt c arg25 (harg25.unread X22) ∗ pt c arg26 (harg26.unread X23) ∗ pt c arg27 (harg27.unread X24) ∗ pt c arg28 (harg28.unread X25) ∗ pt c arg29 (harg29.unread X26)
      ∗ (iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (W.1) ∗ pt c arg17 (W.2.1) ∗ pt c arg18 (W.2.2.1) ∗ pt c arg19 (W.2.2.2.1) ∗ pt c arg20 (W.2.2.2.2.1) ∗ pt c arg21 (W.2.2.2.2.2.1) ∗ pt c arg22 (harg22.unread X19) ∗ pt c arg23 (harg23.unread X20) ∗ pt c arg24 (harg24.unread X21) ∗ pt c arg25 (harg25.unread X22) ∗ pt c arg26 (W.2.2.2.2.2.2.1) ∗ pt c arg27 (W.2.2.2.2.2.2.2.1) ∗ pt c arg28 (W.2.2.2.2.2.2.2.2.1) ∗ pt c arg29 (W.2.2.2.2.2.2.2.2.2)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q } := by
  have hk := conds (i 2) (cur c i arg3 arg4 arg5 arg6 f0 f1 f2 f3)
  have kc33 : ¬ c33 (i 2).val (cur c i arg3 arg4 arg5 arg6 f0 f1 f2 f3) = 1#1 := fun h => by have h1 := (hk.1).mp h; rw [hc] at h1; first | exact absurd h1.2 (by decide) | omega
  have kc37 : ¬ c37 (i 2).val (cur c i arg3 arg4 arg5 arg6 f0 f1 f2 f3) = 1#1 := fun h => by have h1 := (hk.2.1).mp h; rw [hc] at h1; first | exact absurd h1.2 (by decide) | omega
  have kc55 : ¬ c55 (i 2).val (cur c i arg3 arg4 arg5 arg6 f0 f1 f2 f3) = 1#1 := fun h => by have h1 := (hk.2.2.1).mp h; rw [hc] at h1; first | exact absurd h1.2 (by decide) | omega
  have kc58 : ¬ c58 (i 2).val (cur c i arg3 arg4 arg5 arg6 f0 f1 f2 f3) = 1#1 := fun h => by have h1 := (hk.2.2.2.1).mp h; rw [hc] at h1; first | exact absurd h1.2 (by decide) | omega
  have kc73 : c73 (i 2).val (cur c i arg3 arg4 arg5 arg6 f0 f1 f2 f3) = 1#1 := (hk.2.2.2.2.1).mpr ⟨hj, hc⟩
  have kc76 : ¬ c76 (i 2).val (cur c i arg3 arg4 arg5 arg6 f0 f1 f2 f3) = 1#1 := fun h => by have h1 := (hk.2.2.2.2.2).mp h; rw [hc] at h1; first | exact absurd h1.2 (by decide) | omega
  have k7 : ¬ k1_cond7 i = 1#1 := fun h => by have := (cond7 i).mp h; omega
  clear hk
  refine ⟨⟨?_, ?_, ?_, ?_, ?_, ?_, ?_, ?_, ?_, ?_⟩, fun E Q => ?run⟩
  case run =>
    iintro ⟨H0, H1, H2, H3, H4, H5, H6, H7, H8, H9, H10, H11, H12, H13, H14, H15, H16, H17, H18, H19, H20, H21, H22, H23, H24, H25, H26, Hk⟩
    sl_exec_parts (disch := first | sl_exact kc33 | sl_exact kc37 | sl_exact kc55 | sl_exact kc58 | sl_exact kc73 | sl_exact kc76 | sl_exact k7)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

end Cert.Proof.I1

end
-- ==== Proof.I.EqO1.lean ====
module

public import proofs.«01_k».proof.Proof.Gen.KernelIdeal.Launch
public import proofs.«01_k».proof.Proof.Gen.KernelIdeal.Skeleton
public import proofs.«01_k».proof.Proof.I.RunO1
public import proofs.«01_k».proof.Proof.I.Step

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)

set_option maxHeartbeats 0 in
/-- The body at an odd key tile, one bias for all of it: what it leaves, read. -/
theorem eqO1 (hj : 0 < (i 2).val ∧ (i 2).val < 8 ∧ (i 2).val % 2 = 1) (hc : cur c i arg3 arg4 arg5 arg6 f0 f1 f2 f3 = 1#1)
    (W : Bf (F := F) c arg16 × Bf (F := F) c arg17 × Bf (F := F) c arg18 × Bf (F := F) c arg19 × Bf (F := F) c arg20 × Bf (F := F) c arg21 × Bf (F := F) c arg26 × Bf (F := F) c arg27 × Bf (F := F) c arg28 × Bf (F := F) c arg29) (hW : W = (runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 X13 X14 X15 X16 X17 X18 X19 X20 X21 X22 X23 X24 X25 X26 hj hc).1) :
    Acc.mk (arg16.view.read (Elt F) W.1) (arg17.view.read (Elt F) W.2.1) (arg18.view.read (Elt F) W.2.2.1) (arg19.view.read (Elt F) W.2.2.2.1) (arg20.view.read (Elt F) W.2.2.2.2.1) (arg21.view.read (Elt F) W.2.2.2.2.2.1) = accNew (biasAt c i arg3 arg4 arg5 arg6 f0 f1 f2 f3 (word1 X5 (k1_off6 i) (k1_off6_inb i)) (word1 X5 (k1_off7 i) (k1_off7_inb i))) (Pend.mk X19 X21 X20 X22) X11 (Acc.mk X13 X14 X15 X16 X17 X18)
      ∧ Pend.mk (arg26.view.read (Elt F) W.2.2.2.2.2.2.1) (arg28.view.read (Elt F) W.2.2.2.2.2.2.2.2.1) (arg27.view.read (Elt F) W.2.2.2.2.2.2.2.1) (arg29.view.read (Elt F) W.2.2.2.2.2.2.2.2.2) = farPend X9 X10 := by
  have q := acc_congr (bias_congr c i arg3 arg4 arg5 arg6 f0 f1 f2 f3 (rdWord harg8 X5 (k1_off11 i) (k1_off11_inb i)) (rdWord harg8 X5 (k1_off12 i) (k1_off12_inb i))) (harg22.read_unread X19) (rdFull harg24 X21 inb_S1x512_S1x512_0_0) (harg23.read_unread X20) (rdFull harg25 X22 inb_S1x512_S1x512_0_0) (rdFull harg14 X11 inb_S256x1024_S256x1024_0_0) (rdFull harg16 X13 inb_S1x512_S1x512_0_0) (rdFull harg17 X14 inb_S1x512_S1x512_0_0) (rdFull harg18 X15 inb_S256x512_S256x512_0_0) (rdFull harg19 X16 inb_S1x512_S1x512_0_0) (rdFull harg20 X17 inb_S1x512_S1x512_0_0) (rdFull harg21 X18 inb_S256x512_S256x512_0_0)
  have q2 := congrArg₂ farPend (harg12.read_unread X9) (harg13.read_unread X10)
  subst hW
  unfold runO1
  dsimp only
  refine ⟨Eq.trans (acc_ext ?_ ?_ ?_ ?_ ?_ ?_) q, Eq.trans (pend_ext ?_ ?_ ?_ ?_) q2⟩
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    unfold farPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl
  · refine (View.read_writes_full _ _ _ _ _).trans ?_
    rfl
  · refine (View.read_writes_full _ _ _ _ _).trans ?_
    unfold farPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl

end Cert.Proof.I1

end
-- ==== Proof.I.RunO0.lean ====
module

public import proofs.«01_k».proof.Proof.Gen.KernelIdeal.Launch
public import proofs.«01_k».proof.Proof.Gen.KernelIdeal.Skeleton
public import proofs.«01_k».proof.Proof.I.Cond

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The attention's body at an odd key tile, a bias for each distance: what it leaves, with the proof that it does. -/
def runO0 (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)
    (hj : 0 < (i 2).val ∧ (i 2).val < 8 ∧ (i 2).val % 2 = 1) (hc : cur c i arg3 arg4 arg5 arg6 f0 f1 f2 f3 = 0#1) :
    { W : Bf (F := F) c arg16 × Bf (F := F) c arg17 × Bf (F := F) c arg18 × Bf (F := F) c arg19 × Bf (F := F) c arg20 × Bf (F := F) c arg21 × Bf (F := F) c arg26 × Bf (F := F) c arg27 × Bf (F := F) c arg28 × Bf (F := F) c arg29 //
      ∀ (E : Set ℕ) (Q : PUnit → sProp 𝕄),
    iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (harg16.unread X13) ∗ pt c arg17 (harg17.unread X14) ∗ pt c arg18 (harg18.unread X15) ∗ pt c arg19 (harg19.unread X16) ∗ pt c arg20 (harg20.unread X17) ∗ pt c arg21 (harg21.unread X18) ∗ pt c arg22 (harg22.unread X19) ∗ pt c arg23 (harg23.unread X20) ∗ pt c arg24 (harg24.unread X21) ∗ pt c arg25 (harg25.unread X22) ∗ pt c arg26 (harg26.unread X23) ∗ pt c arg27 (harg27.unread X24) ∗ pt c arg28 (harg28.unread X25) ∗ pt c arg29 (harg29.unread X26)
      ∗ (iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (W.1) ∗ pt c arg17 (W.2.1) ∗ pt c arg18 (W.2.2.1) ∗ pt c arg19 (W.2.2.2.1) ∗ pt c arg20 (W.2.2.2.2.1) ∗ pt c arg21 (W.2.2.2.2.2.1) ∗ pt c arg22 (harg22.unread X19) ∗ pt c arg23 (harg23.unread X20) ∗ pt c arg24 (harg24.unread X21) ∗ pt c arg25 (harg25.unread X22) ∗ pt c arg26 (W.2.2.2.2.2.2.1) ∗ pt c arg27 (W.2.2.2.2.2.2.2.1) ∗ pt c arg28 (W.2.2.2.2.2.2.2.2.1) ∗ pt c arg29 (W.2.2.2.2.2.2.2.2.2)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q } := by
  have hk := conds (i 2) (cur c i arg3 arg4 arg5 arg6 f0 f1 f2 f3)
  have kc33 : ¬ c33 (i 2).val (cur c i arg3 arg4 arg5 arg6 f0 f1 f2 f3) = 1#1 := fun h => by have h1 := (hk.1).mp h; rw [hc] at h1; first | exact absurd h1.2 (by decide) | omega
  have kc37 : ¬ c37 (i 2).val (cur c i arg3 arg4 arg5 arg6 f0 f1 f2 f3) = 1#1 := fun h => by have h1 := (hk.2.1).mp h; rw [hc] at h1; first | exact absurd h1.2 (by decide) | omega
  have kc55 : ¬ c55 (i 2).val (cur c i arg3 arg4 arg5 arg6 f0 f1 f2 f3) = 1#1 := fun h => by have h1 := (hk.2.2.1).mp h; rw [hc] at h1; first | exact absurd h1.2 (by decide) | omega
  have kc58 : ¬ c58 (i 2).val (cur c i arg3 arg4 arg5 arg6 f0 f1 f2 f3) = 1#1 := fun h => by have h1 := (hk.2.2.2.1).mp h; rw [hc] at h1; first | exact absurd h1.2 (by decide) | omega
  have kc73 : ¬ c73 (i 2).val (cur c i arg3 arg4 arg5 arg6 f0 f1 f2 f3) = 1#1 := fun h => by have h1 := (hk.2.2.2.2.1).mp h; rw [hc] at h1; first | exact absurd h1.2 (by decide) | omega
  have kc76 : c76 (i 2).val (cur c i arg3 arg4 arg5 arg6 f0 f1 f2 f3) = 1#1 := (hk.2.2.2.2.2).mpr ⟨hj, hc⟩
  have k7 : ¬ k1_cond7 i = 1#1 := fun h => by have := (cond7 i).mp h; omega
  clear hk
  refine ⟨⟨?_, ?_, ?_, ?_, ?_, ?_, ?_, ?_, ?_, ?_⟩, fun E Q => ?run⟩
  case run =>
    iintro ⟨H0, H1, H2, H3, H4, H5, H6, H7, H8, H9, H10, H11, H12, H13, H14, H15, H16, H17, H18, H19, H20, H21, H22, H23, H24, H25, H26, Hk⟩
    sl_exec_parts (disch := first | sl_exact kc33 | sl_exact kc37 | sl_exact kc55 | sl_exact kc58 | sl_exact kc73 | sl_exact kc76 | sl_exact k7)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

end Cert.Proof.I1

end
-- ==== Proof.I.EqO0.lean ====
module

public import proofs.«01_k».proof.Proof.Gen.KernelIdeal.Launch
public import proofs.«01_k».proof.Proof.Gen.KernelIdeal.Skeleton
public import proofs.«01_k».proof.Proof.I.RunO0
public import proofs.«01_k».proof.Proof.I.Step

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)

set_option maxHeartbeats 0 in
/-- The body at an odd key tile, a bias for each distance: what it leaves, read. -/
theorem eqO0 (hj : 0 < (i 2).val ∧ (i 2).val < 8 ∧ (i 2).val % 2 = 1) (hc : cur c i arg3 arg4 arg5 arg6 f0 f1 f2 f3 = 0#1)
    (W : Bf (F := F) c arg16 × Bf (F := F) c arg17 × Bf (F := F) c arg18 × Bf (F := F) c arg19 × Bf (F := F) c arg20 × Bf (F := F) c arg21 × Bf (F := F) c arg26 × Bf (F := F) c arg27 × Bf (F := F) c arg28 × Bf (F := F) c arg29) (hW : W = (runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 X13 X14 X15 X16 X17 X18 X19 X20 X21 X22 X23 X24 X25 X26 hj hc).1) :
    Acc.mk (arg16.view.read (Elt F) W.1) (arg17.view.read (Elt F) W.2.1) (arg18.view.read (Elt F) W.2.2.1) (arg19.view.read (Elt F) W.2.2.2.1) (arg20.view.read (Elt F) W.2.2.2.2.1) (arg21.view.read (Elt F) W.2.2.2.2.2.1) = accNew (biasAt c i arg3 arg4 arg5 arg6 f0 f1 f2 f3 (word1 X5 (k1_off6 i) (k1_off6_inb i)) (word1 X5 (k1_off7 i) (k1_off7_inb i))) (Pend.mk X19 X21 X20 X22) X11 (Acc.mk X13 X14 X15 X16 X17 X18)
      ∧ Pend.mk (arg26.view.read (Elt F) W.2.2.2.2.2.2.1) (arg28.view.read (Elt F) W.2.2.2.2.2.2.2.2.1) (arg27.view.read (Elt F) W.2.2.2.2.2.2.2.1) (arg29.view.read (Elt F) W.2.2.2.2.2.2.2.2.2) = nearPend (blk (e := .f32) X6 (k1_off5 i) S1x128.size (k1_off5_inb i)) X7 X9 X10 := by
  have q := acc_congr (bias_congr c i arg3 arg4 arg5 arg6 f0 f1 f2 f3 (rdWord harg8 X5 (k1_off14 i) (k1_off14_inb i)) (rdWord harg8 X5 (k1_off15 i) (k1_off15_inb i))) (harg22.read_unread X19) (rdFull harg24 X21 inb_S1x512_S1x512_0_0) (harg23.read_unread X20) (rdFull harg25 X22 inb_S1x512_S1x512_0_0) (rdFull harg14 X11 inb_S256x1024_S256x1024_0_0) (rdFull harg16 X13 inb_S1x512_S1x512_0_0) (rdFull harg17 X14 inb_S1x512_S1x512_0_0) (rdFull harg18 X15 inb_S256x512_S256x512_0_0) (rdFull harg19 X16 inb_S1x512_S1x512_0_0) (rdFull harg20 X17 inb_S1x512_S1x512_0_0) (rdFull harg21 X18 inb_S256x512_S256x512_0_0)
  have q2 := near_congr (k1_off13 i) (k1_off13_inb i) (harg9.read_unread X6) (harg10.read_unread X7) (harg12.read_unread X9) (harg13.read_unread X10)
  subst hW
  unfold runO0
  dsimp only
  refine ⟨Eq.trans (acc_ext ?_ ?_ ?_ ?_ ?_ ?_) q, Eq.trans (pend_ext ?_ ?_ ?_ ?_) q2⟩
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    unfold nearPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl
  · refine (View.read_writes_full _ _ _ _ _).trans ?_
    rfl
  · refine (View.read_writes_full _ _ _ _ _).trans ?_
    unfold nearPend pend colMax
    dsimp only
    (first | unfold k1_pay57 | unfold k1_pay116 | unfold k1_pay19 | unfold k1_pay22 | unfold k1_pay53 | unfold k1_pay56 | unfold k1_pay78 | unfold k1_pay81 | unfold k1_pay112 | unfold k1_pay115 | unfold k1_pay160 | unfold k1_pay163 | unfold k1_pay166 | unfold k1_pay169); rfl

end Cert.Proof.I1

end
-- ==== Proof.I.RunF.lean ====
module

public import proofs.«01_k».proof.Proof.Gen.KernelIdeal.Launch
public import proofs.«01_k».proof.Proof.Gen.KernelIdeal.Skeleton
public import proofs.«01_k».proof.Proof.I.Cond

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The attention's body at the closing step: what it leaves, with the proof that it does. -/
def runF (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)
    (hj : (i 2).val = 8) :
    { W : Bf (F := F) c arg15 × Bf (F := F) c arg16 × Bf (F := F) c arg17 × Bf (F := F) c arg18 × Bf (F := F) c arg19 × Bf (F := F) c arg20 × Bf (F := F) c arg21 //
      ∀ (E : Set ℕ) (Q : PUnit → sProp 𝕄),
    iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (harg15.unread X12) ∗ pt c arg16 (harg16.unread X13) ∗ pt c arg17 (harg17.unread X14) ∗ pt c arg18 (harg18.unread X15) ∗ pt c arg19 (harg19.unread X16) ∗ pt c arg20 (harg20.unread X17) ∗ pt c arg21 (harg21.unread X18) ∗ pt c arg22 (harg22.unread X19) ∗ pt c arg23 (harg23.unread X20) ∗ pt c arg24 (harg24.unread X21) ∗ pt c arg25 (harg25.unread X22) ∗ pt c arg26 (harg26.unread X23) ∗ pt c arg27 (harg27.unread X24) ∗ pt c arg28 (harg28.unread X25) ∗ pt c arg29 (harg29.unread X26)
      ∗ (iprop(pt c arg3 f0 ∗ pt c arg4 f1 ∗ pt c arg5 f2 ∗ pt c arg6 f3 ∗ pt c arg7 f4 ∗ pt c arg8 (harg8.unread X5) ∗ pt c arg9 (harg9.unread X6) ∗ pt c arg10 (harg10.unread X7) ∗ pt c arg11 (harg11.unread X8) ∗ pt c arg12 (harg12.unread X9) ∗ pt c arg13 (harg13.unread X10) ∗ pt c arg14 (harg14.unread X11) ∗ pt c arg15 (W.1) ∗ pt c arg16 (W.2.1) ∗ pt c arg17 (W.2.2.1) ∗ pt c arg18 (W.2.2.2.1) ∗ pt c arg19 (W.2.2.2.2.1) ∗ pt c arg20 (W.2.2.2.2.2.1) ∗ pt c arg21 (W.2.2.2.2.2.2) ∗ pt c arg22 (harg22.unread X19) ∗ pt c arg23 (harg23.unread X20) ∗ pt c arg24 (harg24.unread X21) ∗ pt c arg25 (harg25.unread X22) ∗ pt c arg26 (harg26.unread X23) ∗ pt c arg27 (harg27.unread X24) ∗ pt c arg28 (harg28.unread X25) ∗ pt c arg29 (harg29.unread X26)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q } := by
  have hk := conds (i 2) (cur c i arg3 arg4 arg5 arg6 f0 f1 f2 f3)
  have kc33 : ¬ c33 (i 2).val (cur c i arg3 arg4 arg5 arg6 f0 f1 f2 f3) = 1#1 := fun h => by have h1 := (hk.1).mp h; omega
  have kc37 : ¬ c37 (i 2).val (cur c i arg3 arg4 arg5 arg6 f0 f1 f2 f3) = 1#1 := fun h => by have h1 := (hk.2.1).mp h; omega
  have kc55 : ¬ c55 (i 2).val (cur c i arg3 arg4 arg5 arg6 f0 f1 f2 f3) = 1#1 := fun h => by have h1 := (hk.2.2.1).mp h; omega
  have kc58 : ¬ c58 (i 2).val (cur c i arg3 arg4 arg5 arg6 f0 f1 f2 f3) = 1#1 := fun h => by have h1 := (hk.2.2.2.1).mp h; omega
  have kc73 : ¬ c73 (i 2).val (cur c i arg3 arg4 arg5 arg6 f0 f1 f2 f3) = 1#1 := fun h => by have h1 := (hk.2.2.2.2.1).mp h; omega
  have kc76 : ¬ c76 (i 2).val (cur c i arg3 arg4 arg5 arg6 f0 f1 f2 f3) = 1#1 := fun h => by have h1 := (hk.2.2.2.2.2).mp h; omega
  have k7 : k1_cond7 i = 1#1 := (cond7 i).mpr hj
  clear hk
  refine ⟨⟨?_, ?_, ?_, ?_, ?_, ?_, ?_⟩, fun E Q => ?run⟩
  case run =>
    iintro ⟨H0, H1, H2, H3, H4, H5, H6, H7, H8, H9, H10, H11, H12, H13, H14, H15, H16, H17, H18, H19, H20, H21, H22, H23, H24, H25, H26, Hk⟩
    sl_exec_parts (disch := first | sl_exact kc33 | sl_exact kc37 | sl_exact kc55 | sl_exact kc58 | sl_exact kc73 | sl_exact kc76 | sl_exact k7)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

end Cert.Proof.I1

end
-- ==== Proof.I.EqF.lean ====
module

public import proofs.«01_k».proof.Proof.Gen.KernelIdeal.Launch
public import proofs.«01_k».proof.Proof.Gen.KernelIdeal.Skeleton
public import proofs.«01_k».proof.Proof.I.RunF
public import proofs.«01_k».proof.Proof.I.Step

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16) (X13 : Vec F S1x512 .f32) (X14 : Vec F S1x512 .f32) (X15 : Vec F S256x512 .f32) (X16 : Vec F S1x512 .f32) (X17 : Vec F S1x512 .f32) (X18 : Vec F S256x512 .f32) (X19 : Vec F S1024x512 .f32) (X20 : Vec F S1024x512 .f32) (X21 : Vec F S1x512 .f32) (X22 : Vec F S1x512 .f32) (X23 : Vec F S1024x512 .f32) (X24 : Vec F S1024x512 .f32) (X25 : Vec F S1x512 .f32) (X26 : Vec F S1x512 .f32)

set_option maxHeartbeats 0 in
/-- The body at the closing step: what it leaves, read. -/
theorem eqF (hj : (i 2).val = 8)
    (W : Bf (F := F) c arg15 × Bf (F := F) c arg16 × Bf (F := F) c arg17 × Bf (F := F) c arg18 × Bf (F := F) c arg19 × Bf (F := F) c arg20 × Bf (F := F) c arg21) (hW : W = (runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 X13 X14 X15 X16 X17 X18 X19 X20 X21 X22 X23 X24 X25 X26 hj).1) :
    Acc.mk (arg16.view.read (Elt F) W.2.1) (arg17.view.read (Elt F) W.2.2.1) (arg18.view.read (Elt F) W.2.2.2.1) (arg19.view.read (Elt F) W.2.2.2.2.1) (arg20.view.read (Elt F) W.2.2.2.2.2.1) (arg21.view.read (Elt F) W.2.2.2.2.2.2) = accNew (biasAt c i arg3 arg4 arg5 arg6 f0 f1 f2 f3 (word1 X5 (k1_off6 i) (k1_off6_inb i)) (word1 X5 (k1_off7 i) (k1_off7_inb i))) (Pend.mk X23 X25 X24 X26) X11 (Acc.mk X13 X14 X15 X16 X17 X18)
      ∧ (arg15.view.read (Elt F) W.1) = result X8 (accNew (biasAt c i arg3 arg4 arg5 arg6 f0 f1 f2 f3 (word1 X5 (k1_off6 i) (k1_off6_inb i)) (word1 X5 (k1_off7 i) (k1_off7_inb i))) (Pend.mk X23 X25 X24 X26) X11 (Acc.mk X13 X14 X15 X16 X17 X18)) := by
  have q := acc_congr (bias_congr c i arg3 arg4 arg5 arg6 f0 f1 f2 f3 (rdWord harg8 X5 (k1_off16 i) (k1_off16_inb i ((cond7 i).mpr hj))) (rdWord harg8 X5 (k1_off17 i) (k1_off17_inb i ((cond7 i).mpr hj)))) (harg26.read_unread X23) (rdFull harg28 X25 inb_S1x512_S1x512_0_0) (harg27.read_unread X24) (rdFull harg29 X26 inb_S1x512_S1x512_0_0) (rdFull harg14 X11 inb_S256x1024_S256x1024_0_0) (rdFull harg16 X13 inb_S1x512_S1x512_0_0) (rdFull harg17 X14 inb_S1x512_S1x512_0_0) (rdFull harg18 X15 inb_S256x512_S256x512_0_0) (rdFull harg19 X16 inb_S1x512_S1x512_0_0) (rdFull harg20 X17 inb_S1x512_S1x512_0_0) (rdFull harg21 X18 inb_S256x512_S256x512_0_0)
  have q2 := congrArg₂ result (harg11.read_unread X8) q
  subst hW
  unfold runF
  dsimp only
  refine ⟨Eq.trans (acc_ext ?_ ?_ ?_ ?_ ?_ ?_) q, Eq.trans ?_ q2⟩
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    rfl
  · refine (View.read_writes_full _ _ _ _ _).trans ?_
    refine result_congr ?_ ?_ ?_ ?_ ?_ ?_
    · rfl
    · refine (View.readCov_full _ _ _ _ _).trans ?_
      rfl
    · refine (View.readCov_full _ _ _ _ _).trans ?_
      rfl
    · refine (View.readCov_full _ _ _ _ _).trans ?_
      rfl
    · refine (View.readCov_full _ _ _ _ _).trans ?_
      rfl
    · rfl

end Cert.Proof.I1

end
-- ==== Proof.I.Point.lean ====
module

public import proofs.«01_k».proof.Proof.Gen.KernelIdeal.Launch
public import proofs.«01_k».proof.Proof.Gen.KernelIdeal.Skeleton
public import proofs.«01_k».proof.Proof.I.Scr
public import proofs.«01_k».proof.Proof.I.EqS1
public import proofs.«01_k».proof.Proof.I.EqS0
public import proofs.«01_k».proof.Proof.I.EqE1
public import proofs.«01_k».proof.Proof.I.EqE0
public import proofs.«01_k».proof.Proof.I.EqO1
public import proofs.«01_k».proof.Proof.I.EqO0
public import proofs.«01_k».proof.Proof.I.EqF

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid1.Coords)
    (arg3 : Memref sig .tc .smem S16 .i32) (harg3 : arg3.IsWhole)
    (arg4 : Memref sig .tc .smem S16 .i32) (harg4 : arg4.IsWhole)
    (arg5 : Memref sig .tc .smem S8 .i32) (harg5 : arg5.IsWhole)
    (arg6 : Memref sig .tc .smem S8 .i32) (harg6 : arg6.IsWhole)
    (arg7 : Memref sig .tc .smem S144 .i32) (harg7 : arg7.IsWhole)
    (arg8 : Memref sig .tc .smem S32x16 .f32) (harg8 : arg8.IsWhole)
    (arg9 : Memref sig .tc .vmem S16x128 .f32) (harg9 : arg9.IsWhole)
    (arg10 : Memref sig .tc .vmem S1024x512 .i8) (harg10 : arg10.IsWhole)
    (arg11 : Memref sig .tc .vmem S8x256 .f32) (harg11 : arg11.IsWhole)
    (arg12 : Memref sig .tc .vmem S256x512 .bf16) (harg12 : arg12.IsWhole)
    (arg13 : Memref sig .tc .vmem S1024x256 .bf16) (harg13 : arg13.IsWhole)
    (arg14 : Memref sig .tc .vmem S256x1024 .bf16) (harg14 : arg14.IsWhole)
    (arg15 : Memref sig .tc .vmem S512x256 .bf16) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S256x512 .f32) (harg18 : arg18.IsWhole)
    (arg19 : Memref sig .tc .vmem S1x512 .f32) (harg19 : arg19.IsWhole)
    (arg20 : Memref sig .tc .vmem S1x512 .f32) (harg20 : arg20.IsWhole)
    (arg21 : Memref sig .tc .vmem S256x512 .f32) (harg21 : arg21.IsWhole)
    (arg22 : Memref sig .tc .vmem S1024x512 .f32) (harg22 : arg22.IsWhole)
    (arg23 : Memref sig .tc .vmem S1024x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1024x512 .f32) (harg26 : arg26.IsWhole)
    (arg27 : Memref sig .tc .vmem S1024x512 .f32) (harg27 : arg27.IsWhole)
    (arg28 : Memref sig .tc .vmem S1x512 .f32) (harg28 : arg28.IsWhole)
    (arg29 : Memref sig .tc .vmem S1x512 .f32) (harg29 : arg29.IsWhole)
    (f0 : Bf (F := F) c arg3) (f1 : Bf (F := F) c arg4) (f2 : Bf (F := F) c arg5) (f3 : Bf (F := F) c arg6) (f4 : Bf (F := F) c arg7)
    (X5 : Vec F S32x16 .f32) (X6 : Vec F S16x128 .f32) (X7 : Vec F S1024x512 .i8) (X8 : Vec F S8x256 .f32) (X9 : Vec F S256x512 .bf16) (X10 : Vec F S1024x256 .bf16) (X11 : Vec F S256x1024 .bf16) (X12 : Vec F S512x256 .bf16)

set_option maxHeartbeats 0 in
/-- One grid point: the scratch memory steps, and the closing key step writes the block of the result. -/
theorem point (a : Acc F) (p : Pend F) (E : Set ℕ) (Q : PUnit → sProp 𝕄) :
    iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread X12) ∗ scr c arg16 harg16 arg17 harg17 arg18 harg18 arg19 harg19 arg20 harg20 arg21 harg21 arg22 harg22 arg23 harg23 arg24 harg24 arg25 harg25 arg26 harg26 arg27 harg27 arg28 harg28 arg29 harg29 (i 2).val a p
        ∗ (iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread (if (i 2).val = 8 then result X8 (stepAcc c i arg3 arg4 arg5 arg6 f0 f1 f2 f3 X5 X11 a p) else X12))
            ∗ scr c arg16 harg16 arg17 harg17 arg18 harg18 arg19 harg19 arg20 harg20 arg21 harg21 arg22 harg22 arg23 harg23 arg24 harg24 arg25 harg25 arg26 harg26 arg27 harg27 arg28 harg28 arg29 harg29 (((i 2).val + 1) % 9) (stepAcc c i arg3 arg4 arg5 arg6 f0 f1 f2 f3 X5 X11 a p) (stepPend c i arg3 arg4 arg5 arg6 f0 f1 f2 f3 X6 X7 X9 X10)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q := by
  have hi : (i 2).val < 9 := (i 2).isLt
  suffices h : ∀ (A0 : Acc F) (Pa Pb : Pend F), live (i 2).val a p A0 Pa Pb →
      iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread X12) ∗ (pt c arg16 (harg16.unread A0.m1) ∗ pt c arg17 (harg17.unread A0.l1) ∗ pt c arg18 (harg18.unread A0.a1) ∗ pt c arg19 (harg19.unread A0.m2) ∗ pt c arg20 (harg20.unread A0.l2) ∗ pt c arg21 (harg21.unread A0.a2) ∗ pt c arg22 (harg22.unread Pa.s1) ∗ pt c arg23 (harg23.unread Pa.s2) ∗ pt c arg24 (harg24.unread Pa.r1) ∗ pt c arg25 (harg25.unread Pa.r2) ∗ pt c arg26 (harg26.unread Pb.s1) ∗ pt c arg27 (harg27.unread Pb.s2) ∗ pt c arg28 (harg28.unread Pb.r1) ∗ pt c arg29 (harg29.unread Pb.r2))
        ∗ (iprop((ins c arg3 arg4 arg5 arg6 arg7 arg8 harg8 arg9 harg9 arg10 harg10 arg11 harg11 arg12 harg12 arg13 harg13 arg14 harg14 f0 f1 f2 f3 f4 X5 X6 X7 X8 X9 X10 X11) ∗ pt c arg15 (harg15.unread (if (i 2).val = 8 then result X8 (stepAcc c i arg3 arg4 arg5 arg6 f0 f1 f2 f3 X5 X11 a p) else X12))
            ∗ scr c arg16 harg16 arg17 harg17 arg18 harg18 arg19 harg19 arg20 harg20 arg21 harg21 arg22 harg22 arg23 harg23 arg24 harg24 arg25 harg25 arg26 harg26 arg27 harg27 arg28 harg28 arg29 harg29 (((i 2).val + 1) % 9) (stepAcc c i arg3 arg4 arg5 arg6 f0 f1 f2 f3 X5 X11 a p) (stepPend c i arg3 arg4 arg5 arg6 f0 f1 f2 f3 X6 X7 X9 X10)) -∗ Q ⟨⟩))
      ⊢ wp frame (wpE (defs₀ (F := F)) Variants.none c none) E
          (cc1_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) Q by
    iintro ⟨HI, HO, HS, Hk⟩
    unfold scr
    icases HS with ⟨%A0, %Pa, %Pb, %hl, HS⟩
    iapply (h A0 Pa Pb hl)
    isplitl [HI]; · iexact HI
    isplitl [HO]; · iexact HO
    isplitl [HS]; · iexact HS
    iexact Hk
  intro A0 Pa Pb hl
  obtain ⟨l1, l2, l3⟩ := hl
  have hcd : cur c i arg3 arg4 arg5 arg6 f0 f1 f2 f3 = 1#1 ∨ cur c i arg3 arg4 arg5 arg6 f0 f1 f2 f3 = 0#1 := by
    generalize cur c i arg3 arg4 arg5 arg6 f0 f1 f2 f3 = v
    revert v; decide
  unfold stepAcc stepPend
  by_cases h8 : (i 2).val = 8
  · have hj := h8
    obtain rfl := l1 (by omega)
    obtain rfl := l3 ⟨by omega, by omega⟩
    have e := eqF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj _ rfl
    refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.2.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.2.2.2.1) ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).1.2.2.2.2.2.2) (harg22.unread Pa.s1) (harg23.unread Pa.s2) (harg24.unread Pa.r1) (harg25.unread Pa.r2) (harg26.unread Pb.s1) (harg27.unread Pb.s2) (harg28.unread Pb.r1) (harg29.unread Pb.r2) ?_ ⟨?_, ?_, ?_⟩ E Q ((runF c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj).2 E Q)
    · rw [if_pos hj, if_neg (by omega)]; exact e.2
    · intro h; omega
    · intro h; omega
    · intro h; omega
  by_cases h0 : (i 2).val = 0
  · have hj := h0
    rcases hcd with hc | hc
    · have e := eqS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) (harg26.unread Pb.s1) (harg27.unread Pb.s2) (harg28.unread Pb.r1) (harg29.unread Pb.r2) ?_ ⟨?_, ?_, ?_⟩ E Q ((runS1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_pos hj]; exact e.1
      · intro _; rw [if_pos hc]; exact e.2
      · intro h; omega
    · have e := eqS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) (harg26.unread Pb.s1) (harg27.unread Pb.s2) (harg28.unread Pb.r1) (harg29.unread Pb.r2) ?_ ⟨?_, ?_, ?_⟩ E Q ((runS0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_pos hj]; exact e.1
      · intro _; rw [if_neg (by rw [hc]; decide)]; exact e.2
      · intro h; omega
  rcases Nat.mod_two_eq_zero_or_one (i 2).val with h2 | h2
  · have hj : 0 < (i 2).val ∧ (i 2).val < 8 ∧ (i 2).val % 2 = 0 := by omega
    rcases hcd with hc | hc
    · obtain rfl := l1 (by omega)
      obtain rfl := l3 ⟨by omega, by omega⟩
      have e := eqE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) (harg26.unread Pb.s1) (harg27.unread Pb.s2) (harg28.unread Pb.r1) (harg29.unread Pb.r2) ?_ ⟨?_, ?_, ?_⟩ E Q ((runE1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_neg (by omega)]; exact e.1
      · intro _; rw [if_pos hc]; exact e.2
      · intro h; omega
    · obtain rfl := l1 (by omega)
      obtain rfl := l3 ⟨by omega, by omega⟩
      have e := eqE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) (harg26.unread Pb.s1) (harg27.unread Pb.s2) (harg28.unread Pb.r1) (harg29.unread Pb.r2) ?_ ⟨?_, ?_, ?_⟩ E Q ((runE0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_neg (by omega)]; exact e.1
      · intro _; rw [if_neg (by rw [hc]; decide)]; exact e.2
      · intro h; omega
  · have hj : 0 < (i 2).val ∧ (i 2).val < 8 ∧ (i 2).val % 2 = 1 := by omega
    rcases hcd with hc | hc
    · obtain rfl := l1 (by omega)
      obtain rfl := l2 (by omega)
      have e := eqO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) (harg22.unread Pa.s1) (harg23.unread Pa.s2) (harg24.unread Pa.r1) (harg25.unread Pa.r2) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) ?_ ⟨?_, ?_, ?_⟩ E Q ((runO1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_neg (by omega)]; exact e.1
      · intro h; omega
      · intro _; rw [if_pos hc]; exact e.2
    · obtain rfl := l1 (by omega)
      obtain rfl := l2 (by omega)
      have e := eqO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc _ rfl
      refine fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 _ _ _ A0 Pa Pb _ (harg15.unread X12) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.1) (harg22.unread Pa.s1) (harg23.unread Pa.s2) (harg24.unread Pa.r1) (harg25.unread Pa.r2) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.1) ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).1.2.2.2.2.2.2.2.2.2) ?_ ⟨?_, ?_, ?_⟩ E Q ((runO0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f0 f1 f2 f3 f4 X5 X6 X7 X8 X9 X10 X11 X12 A0.m1 A0.l1 A0.a1 A0.m2 A0.l2 A0.a2 Pa.s1 Pa.s2 Pa.r1 Pa.r2 Pb.s1 Pb.s2 Pb.r1 Pb.r2 hj hc).2 E Q)
      · rw [if_neg (by omega)]; exact harg15.read_unread X12
      · intro _; rw [if_neg (by omega)]; exact e.1
      · intro h; omega
      · intro _; rw [if_neg (by rw [hc]; decide)]; exact e.2

end Cert.Proof.I1

end
-- ==== Proof.I.Region1.lean ====
module

public import proofs.«01_k».proof.Proof.I.Point

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The attention kernel's region: its proof data and body obligation -/

theorem pref1_eq (c : Dev nD) (v : pre1.Contents (Elt F)) :
    (Pipeline.prefHeld pre1 c (fun _ => fullShare) v : sProp 𝕄)
      = iprop(pt c (Memref.whole main_v7) (v 0) ∗ pt c (Memref.whole main_v9) (v 1) ∗ pt c (Memref.whole main_v11) (v 2) ∗ pt c (Memref.whole main_v13) (v 3) ∗ pt c (Memref.whole main_v55) (v 4)) :=
  bigSep_univ_eq_bigSepL [(0 : Fin 5), (1 : Fin 5), (2 : Fin 5), (3 : Fin 5), (4 : Fin 5)] (by decide) (by decide) _

theorem coord2 : ∀ t : Fin 2304, ((grid1.coords t) 2).val = t.val % 9 := by decide +kernel

/-- The output block's place moves only after the last key step. -/
theorem stays7 : ∀ t : Fin 2304, ((grid1.coords t) 2).val ≠ 8 → ∃ h : t.val + 1 < 2304, cc1_transform_7 (grid1.coords ⟨t.val + 1, h⟩) = cc1_transform_7 (grid1.coords t) := by
  decide +kernel

variable (a : (pcfg1 (F := F)).Adm) (V : Dev nD → Valuation τ sig (Elt F))

abbrev in1_0 (c : Dev nD) (t : Fin (cfg1 a).N) : Vec F S32x16 .f32 := (((cfg1 a).win 0).blk t).view.read (Elt F) (V c (Proc.devRef .tc main_arg4))
abbrev in1_1 (c : Dev nD) (t : Fin (cfg1 a).N) : Vec F S16x128 .f32 := (((cfg1 a).win 1).blk t).view.read (Elt F) (V c (Proc.devRef .tc main_v17))
abbrev in1_2 (c : Dev nD) (t : Fin (cfg1 a).N) : Vec F S1024x512 .i8 := (((cfg1 a).win 2).blk t).view.read (Elt F) (V c (Proc.devRef .tc main_v20))
abbrev in1_3 (c : Dev nD) (t : Fin (cfg1 a).N) : Vec F S8x256 .f32 := (((cfg1 a).win 3).blk t).view.read (Elt F) (V c (Proc.devRef .tc main_v74))
abbrev in1_4 (c : Dev nD) (t : Fin (cfg1 a).N) : Vec F S256x512 .bf16 := (((cfg1 a).win 4).blk t).view.read (Elt F) (V c (Proc.devRef .tc main_arg0))
abbrev in1_5 (c : Dev nD) (t : Fin (cfg1 a).N) : Vec F S1024x256 .bf16 := (((cfg1 a).win 5).blk t).view.read (Elt F) (V c (Proc.devRef .tc main_arg1))
abbrev in1_6 (c : Dev nD) (t : Fin (cfg1 a).N) : Vec F S256x1024 .bf16 := (((cfg1 a).win 6).blk t).view.read (Elt F) (V c (Proc.devRef .tc main_arg2))

/-- What is accumulated after a point, and the tile it leaves, from what was there before it. -/
abbrev acc1 (c : Dev nD) (t : Fin (cfg1 a).N) (s : Acc F × Pend F) : Acc F :=
  stepAcc c (grid1.coords t) (Memref.whole main_v7) (Memref.whole main_v9) (Memref.whole main_v11) (Memref.whole main_v13) (a.1 0) (a.1 1) (a.1 2) (a.1 3) (in1_0 a V c t) (in1_6 a V c t) s.1 s.2
abbrev pend1 (c : Dev nD) (t : Fin (cfg1 a).N) : Pend F :=
  stepPend c (grid1.coords t) (Memref.whole main_v7) (Memref.whole main_v9) (Memref.whole main_v11) (Memref.whole main_v13) (a.1 0) (a.1 1) (a.1 2) (a.1 3) (in1_1 a V c t) (in1_2 a V c t) (in1_4 a V c t) (in1_5 a V c t)

/-- The trace of the scratch memory: what is accumulated and the tile left, before point `n`. -/
def tr (c : Dev nD) : ℕ → Acc F × Pend F
  | 0 => (acc0, ⟨constant S1024x512 .f32 0x00000000#32, constant S1x512 .f32 0x00000000#32, constant S1024x512 .f32 0x00000000#32, constant S1x512 .f32 0x00000000#32⟩)
  | n + 1 => if h : n < (cfg1 a).N then (acc1 a V c ⟨n, h⟩ (tr c n), pend1 a V c ⟨n, h⟩) else tr c n

theorem tr_succ (c : Dev nD) (t : Fin (cfg1 a).N) : tr a V c (t.val + 1) = (acc1 a V c t (tr a V c t.val), pend1 a V c t) := by
  rw [tr, dif_pos t.isLt]

/-- The other kernel's staging buffers, at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The scratch memory before key step `j`. -/
abbrev scr1 (c : Dev nD) (j : ℕ) (s : Acc F × Pend F) : sProp 𝕄 :=
  scr c (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) j s.1 s.2

/-- The invariant before point `n`. -/
def inv1 (c : Dev nD) (n : ℕ) : sProp 𝕄 :=
  iprop(rest1 c ∗ Pipeline.prefHeld pre1 c (fun _ => fullShare) a.1 ∗ scr1 c (n % 9) (tr a V c n))

/-- The block of the result a point leaves, where it leaves one. -/
abbrev out1 (c : Dev nD) (t : Fin (cfg1 a).N) : Vec F S512x256 .bf16 := result (in1_3 a V c t) (acc1 a V c t (tr a V c t.val))

def dat1 (c : Dev nD) : Dat τ (Elt F) Unit ℕ (UR sig nD τ) ℕ (cfg1 a) c where
  A w := V c (Proc.devRef .tc (Pipeline.arrRef spec1 w))
  after w t := match w with
    | ⟨0, _⟩ => in1_0 a V c t
    | ⟨1, _⟩ => in1_1 a V c t
    | ⟨2, _⟩ => in1_2 a V c t
    | ⟨3, _⟩ => in1_3 a V c t
    | ⟨4, _⟩ => in1_4 a V c t
    | ⟨5, _⟩ => in1_5 a V c t
    | ⟨6, _⟩ => in1_6 a V c t
    | ⟨7, _⟩ => out1 a V c t
  Φ t := inv1 a V c t.val
  q _ := fullShare
  owed _ := 0

theorem before1_0 (c : Dev nD) (t : Fin (cfg1 a).N) (d) : (dat1 a V c).before 0 t d = in1_0 a V c t :=
  ((dat1 a V c).before_in_eq_fetched 0 rfl (fun _ => rfl) (fun _ _ _ => rfl) (fun _ => rfl) t d).trans
    (by unfold Dat.fetched Dat.blockOf; dsimp only [dat1]; rfl)
theorem before1_1 (c : Dev nD) (t : Fin (cfg1 a).N) (d) : (dat1 a V c).before 1 t d = in1_1 a V c t :=
  ((dat1 a V c).before_in_eq_fetched 1 rfl (fun _ => rfl) (fun _ _ _ => rfl) (fun _ => rfl) t d).trans
    (by unfold Dat.fetched Dat.blockOf; dsimp only [dat1]; rfl)
theorem before1_2 (c : Dev nD) (t : Fin (cfg1 a).N) (d) : (dat1 a V c).before 2 t d = in1_2 a V c t :=
  ((dat1 a V c).before_in_eq_fetched 2 rfl (fun _ => rfl) (fun _ _ _ => rfl) (fun _ => rfl) t d).trans
    (by unfold Dat.fetched Dat.blockOf; dsimp only [dat1]; rfl)
theorem before1_3 (c : Dev nD) (t : Fin (cfg1 a).N) (d) : (dat1 a V c).before 3 t d = in1_3 a V c t :=
  ((dat1 a V c).before_in_eq_fetched 3 rfl (fun _ => rfl) (fun _ _ _ => rfl) (fun _ => rfl) t d).trans
    (by unfold Dat.fetched Dat.blockOf; dsimp only [dat1]; rfl)
theorem before1_4 (c : Dev nD) (t : Fin (cfg1 a).N) (d) : (dat1 a V c).before 4 t d = in1_4 a V c t :=
  ((dat1 a V c).before_in_eq_fetched 4 rfl (fun _ => rfl) (fun _ _ _ => rfl) (fun _ => rfl) t d).trans
    (by unfold Dat.fetched Dat.blockOf; dsimp only [dat1]; rfl)
theorem before1_5 (c : Dev nD) (t : Fin (cfg1 a).N) (d) : (dat1 a V c).before 5 t d = in1_5 a V c t :=
  ((dat1 a V c).before_in_eq_fetched 5 rfl (fun _ => rfl) (fun _ _ _ => rfl) (fun _ => rfl) t d).trans
    (by unfold Dat.fetched Dat.blockOf; dsimp only [dat1]; rfl)
theorem before1_6 (c : Dev nD) (t : Fin (cfg1 a).N) (d) : (dat1 a V c).before 6 t d = in1_6 a V c t :=
  ((dat1 a V c).before_in_eq_fetched 6 rfl (fun _ => rfl) (fun _ _ _ => rfl) (fun _ => rfl) t d).trans
    (by unfold Dat.fetched Dat.blockOf; dsimp only [dat1]; rfl)

theorem castSucc_val {α : Type _} {N : ℕ} (S : ℕ → α) (t : Fin N) : S t.castSucc.val = S t.val := rfl
theorem succ_val {α : Type _} {N : ℕ} (S : ℕ → α) (t : Fin N) : S t.succ.val = S (t.val + 1) := rfl

set_option maxHeartbeats 0 in
theorem core1 (c : Dev nD) (t : Fin (cfg1 a).N) (R7 O : sProp 𝕄)
    (h7 : ∀ d, (pt c (stage1_7 ((cfg1 a).slots t 7)) ((hstage1_7 (((cfg1 a).slots t 7).cast nbuf1_7)).unread (if ((grid1.coords t) 2).val = 8 then out1 a V c t else (dat1 a V c).before 7 t d)) : sProp 𝕄) ⊢ R7) :
    iprop(inv1 a V c t.val ∗ O ∗ (∃ d, owns (c : Thread nD τ) (stage1_0 ((cfg1 a).slots t 0)) fullShare ((dat1 a V c).before 0 t d)) ∗ (∃ d, owns (c : Thread nD τ) (stage1_1 ((cfg1 a).slots t 1)) fullShare ((dat1 a V c).before 1 t d)) ∗ (∃ d, owns (c : Thread nD τ) (stage1_2 ((cfg1 a).slots t 2)) fullShare ((dat1 a V c).before 2 t d)) ∗ (∃ d, owns (c : Thread nD τ) (stage1_3 ((cfg1 a).slots t 3)) fullShare ((dat1 a V c).before 3 t d)) ∗ (∃ d, owns (c : Thread nD τ) (stage1_4 ((cfg1 a).slots t 4)) fullShare ((dat1 a V c).before 4 t d)) ∗ (∃ d, owns (c : Thread nD τ) (stage1_5 ((cfg1 a).slots t 5)) fullShare ((dat1 a V c).before 5 t d)) ∗ (∃ d, owns (c : Thread nD τ) (stage1_6 ((cfg1 a).slots t 6)) fullShare ((dat1 a V c).before 6 t d)) ∗ ∃ d, owns (c : Thread nD τ) (stage1_7 ((cfg1 a).slots t 7)) fullShare ((dat1 a V c).before 7 t d))
      ⊢ wp frame (wpE (defs₀ (F := F)) Variants.none c none) Set.univ
          (cc1_diff_attn (grid1.coords t) (Memref.whole main_v7) (Memref.isWhole_whole _) (Memref.whole main_v9) (Memref.isWhole_whole _) (Memref.whole main_v11) (Memref.isWhole_whole _) (Memref.whole main_v13) (Memref.isWhole_whole _) (Memref.whole main_v55) (Memref.isWhole_whole _) (stage1_0 ((cfg1 a).slots t 0)) (hstage1_0 (((cfg1 a).slots t 0).cast nbuf1_0)) (stage1_1 ((cfg1 a).slots t 1)) (hstage1_1 (((cfg1 a).slots t 1).cast nbuf1_1)) (stage1_2 ((cfg1 a).slots t 2)) (hstage1_2 (((cfg1 a).slots t 2).cast nbuf1_2)) (stage1_3 ((cfg1 a).slots t 3)) (hstage1_3 (((cfg1 a).slots t 3).cast nbuf1_3)) (stage1_4 ((cfg1 a).slots t 4)) (hstage1_4 (((cfg1 a).slots t 4).cast nbuf1_4)) (stage1_5 ((cfg1 a).slots t 5)) (hstage1_5 (((cfg1 a).slots t 5).cast nbuf1_5)) (stage1_6 ((cfg1 a).slots t 6)) (hstage1_6 (((cfg1 a).slots t 6).cast nbuf1_6)) (stage1_7 ((cfg1 a).slots t 7)) (hstage1_7 (((cfg1 a).slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _))
          fun _ => iprop(inv1 a V c (t.val + 1) ∗ O ∗ owns (c : Thread nD τ) (stage1_0 ((cfg1 a).slots t 0)) fullShare (in1_0 a V c t) ∗ owns (c : Thread nD τ) (stage1_1 ((cfg1 a).slots t 1)) fullShare (in1_1 a V c t) ∗ owns (c : Thread nD τ) (stage1_2 ((cfg1 a).slots t 2)) fullShare (in1_2 a V c t) ∗ owns (c : Thread nD τ) (stage1_3 ((cfg1 a).slots t 3)) fullShare (in1_3 a V c t) ∗ owns (c : Thread nD τ) (stage1_4 ((cfg1 a).slots t 4)) fullShare (in1_4 a V c t) ∗ owns (c : Thread nD τ) (stage1_5 ((cfg1 a).slots t 5)) fullShare (in1_5 a V c t) ∗ owns (c : Thread nD τ) (stage1_6 ((cfg1 a).slots t 6)) fullShare (in1_6 a V c t) ∗ R7) := by
  have e0 : ∀ d, (owns (c : Thread nD τ) (stage1_0 ((cfg1 a).slots t 0)) fullShare ((dat1 a V c).before 0 t d) : sProp 𝕄) ⊢ pt c (stage1_0 ((cfg1 a).slots t 0)) ((hstage1_0 (((cfg1 a).slots t 0).cast nbuf1_0)).unread (in1_0 a V c t)) := fun d => by
    rw [before1_0]; exact Entails.of_eq (own_eq c _ _)
  have g0 : (pt c (stage1_0 ((cfg1 a).slots t 0)) ((hstage1_0 (((cfg1 a).slots t 0).cast nbuf1_0)).unread (in1_0 a V c t)) : sProp 𝕄) ⊢ owns (c : Thread nD τ) (stage1_0 ((cfg1 a).slots t 0)) fullShare (in1_0 a V c t) := Entails.of_eq (own_eq c _ _).symm
  have e1 : ∀ d, (owns (c : Thread nD τ) (stage1_1 ((cfg1 a).slots t 1)) fullShare ((dat1 a V c).before 1 t d) : sProp 𝕄) ⊢ pt c (stage1_1 ((cfg1 a).slots t 1)) ((hstage1_1 (((cfg1 a).slots t 1).cast nbuf1_1)).unread (in1_1 a V c t)) := fun d => by
    rw [before1_1]; exact Entails.of_eq (own_eq c _ _)
  have g1 : (pt c (stage1_1 ((cfg1 a).slots t 1)) ((hstage1_1 (((cfg1 a).slots t 1).cast nbuf1_1)).unread (in1_1 a V c t)) : sProp 𝕄) ⊢ owns (c : Thread nD τ) (stage1_1 ((cfg1 a).slots t 1)) fullShare (in1_1 a V c t) := Entails.of_eq (own_eq c _ _).symm
  have e2 : ∀ d, (owns (c : Thread nD τ) (stage1_2 ((cfg1 a).slots t 2)) fullShare ((dat1 a V c).before 2 t d) : sProp 𝕄) ⊢ pt c (stage1_2 ((cfg1 a).slots t 2)) ((hstage1_2 (((cfg1 a).slots t 2).cast nbuf1_2)).unread (in1_2 a V c t)) := fun d => by
    rw [before1_2]; exact Entails.of_eq (own_eq c _ _)
  have g2 : (pt c (stage1_2 ((cfg1 a).slots t 2)) ((hstage1_2 (((cfg1 a).slots t 2).cast nbuf1_2)).unread (in1_2 a V c t)) : sProp 𝕄) ⊢ owns (c : Thread nD τ) (stage1_2 ((cfg1 a).slots t 2)) fullShare (in1_2 a V c t) := Entails.of_eq (own_eq c _ _).symm
  have e3 : ∀ d, (owns (c : Thread nD τ) (stage1_3 ((cfg1 a).slots t 3)) fullShare ((dat1 a V c).before 3 t d) : sProp 𝕄) ⊢ pt c (stage1_3 ((cfg1 a).slots t 3)) ((hstage1_3 (((cfg1 a).slots t 3).cast nbuf1_3)).unread (in1_3 a V c t)) := fun d => by
    rw [before1_3]; exact Entails.of_eq (own_eq c _ _)
  have g3 : (pt c (stage1_3 ((cfg1 a).slots t 3)) ((hstage1_3 (((cfg1 a).slots t 3).cast nbuf1_3)).unread (in1_3 a V c t)) : sProp 𝕄) ⊢ owns (c : Thread nD τ) (stage1_3 ((cfg1 a).slots t 3)) fullShare (in1_3 a V c t) := Entails.of_eq (own_eq c _ _).symm
  have e4 : ∀ d, (owns (c : Thread nD τ) (stage1_4 ((cfg1 a).slots t 4)) fullShare ((dat1 a V c).before 4 t d) : sProp 𝕄) ⊢ pt c (stage1_4 ((cfg1 a).slots t 4)) ((hstage1_4 (((cfg1 a).slots t 4).cast nbuf1_4)).unread (in1_4 a V c t)) := fun d => by
    rw [before1_4]; exact Entails.of_eq (own_eq c _ _)
  have g4 : (pt c (stage1_4 ((cfg1 a).slots t 4)) ((hstage1_4 (((cfg1 a).slots t 4).cast nbuf1_4)).unread (in1_4 a V c t)) : sProp 𝕄) ⊢ owns (c : Thread nD τ) (stage1_4 ((cfg1 a).slots t 4)) fullShare (in1_4 a V c t) := Entails.of_eq (own_eq c _ _).symm
  have e5 : ∀ d, (owns (c : Thread nD τ) (stage1_5 ((cfg1 a).slots t 5)) fullShare ((dat1 a V c).before 5 t d) : sProp 𝕄) ⊢ pt c (stage1_5 ((cfg1 a).slots t 5)) ((hstage1_5 (((cfg1 a).slots t 5).cast nbuf1_5)).unread (in1_5 a V c t)) := fun d => by
    rw [before1_5]; exact Entails.of_eq (own_eq c _ _)
  have g5 : (pt c (stage1_5 ((cfg1 a).slots t 5)) ((hstage1_5 (((cfg1 a).slots t 5).cast nbuf1_5)).unread (in1_5 a V c t)) : sProp 𝕄) ⊢ owns (c : Thread nD τ) (stage1_5 ((cfg1 a).slots t 5)) fullShare (in1_5 a V c t) := Entails.of_eq (own_eq c _ _).symm
  have e6 : ∀ d, (owns (c : Thread nD τ) (stage1_6 ((cfg1 a).slots t 6)) fullShare ((dat1 a V c).before 6 t d) : sProp 𝕄) ⊢ pt c (stage1_6 ((cfg1 a).slots t 6)) ((hstage1_6 (((cfg1 a).slots t 6).cast nbuf1_6)).unread (in1_6 a V c t)) := fun d => by
    rw [before1_6]; exact Entails.of_eq (own_eq c _ _)
  have g6 : (pt c (stage1_6 ((cfg1 a).slots t 6)) ((hstage1_6 (((cfg1 a).slots t 6).cast nbuf1_6)).unread (in1_6 a V c t)) : sProp 𝕄) ⊢ owns (c : Thread nD τ) (stage1_6 ((cfg1 a).slots t 6)) fullShare (in1_6 a V c t) := Entails.of_eq (own_eq c _ _).symm
  have e7 : ∀ d, (owns (c : Thread nD τ) (stage1_7 ((cfg1 a).slots t 7)) fullShare ((dat1 a V c).before 7 t d) : sProp 𝕄) ⊢ pt c (stage1_7 ((cfg1 a).slots t 7)) ((hstage1_7 (((cfg1 a).slots t 7).cast nbuf1_7)).unread ((dat1 a V c).before 7 t d)) := fun d => Entails.of_eq (own_eq c _ _)
  have hm : t.val % 9 = ((grid1.coords t) 2).val := (coord2 t).symm
  have hm' : (t.val + 1) % 9 = (((grid1.coords t) 2).val + 1) % 9 := by omega
  unfold inv1
  rw [pref1_eq, tr_succ, hm, hm']
  iintro ⟨⟨HR, ⟨T0, T1, T2, T3, T4⟩, HS⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave G0 := (e0 d0) $$ H0
  ihave G1 := (e1 d1) $$ H1
  ihave G2 := (e2 d2) $$ H2
  ihave G3 := (e3 d3) $$ H3
  ihave G4 := (e4 d4) $$ H4
  ihave G5 := (e5 d5) $$ H5
  ihave G6 := (e6 d6) $$ H6
  ihave G7 := (e7 d7) $$ H7
  iapply (point c (grid1.coords t) (Memref.whole main_v7) (Memref.isWhole_whole _) (Memref.whole main_v9) (Memref.isWhole_whole _) (Memref.whole main_v11) (Memref.isWhole_whole _) (Memref.whole main_v13) (Memref.isWhole_whole _) (Memref.whole main_v55) (Memref.isWhole_whole _) (stage1_0 ((cfg1 a).slots t 0)) (hstage1_0 (((cfg1 a).slots t 0).cast nbuf1_0)) (stage1_1 ((cfg1 a).slots t 1)) (hstage1_1 (((cfg1 a).slots t 1).cast nbuf1_1)) (stage1_2 ((cfg1 a).slots t 2)) (hstage1_2 (((cfg1 a).slots t 2).cast nbuf1_2)) (stage1_3 ((cfg1 a).slots t 3)) (hstage1_3 (((cfg1 a).slots t 3).cast nbuf1_3)) (stage1_4 ((cfg1 a).slots t 4)) (hstage1_4 (((cfg1 a).slots t 4).cast nbuf1_4)) (stage1_5 ((cfg1 a).slots t 5)) (hstage1_5 (((cfg1 a).slots t 5).cast nbuf1_5)) (stage1_6 ((cfg1 a).slots t 6)) (hstage1_6 (((cfg1 a).slots t 6).cast nbuf1_6)) (stage1_7 ((cfg1 a).slots t 7)) (hstage1_7 (((cfg1 a).slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _)
    (a.1 0) (a.1 1) (a.1 2) (a.1 3) (a.1 4) (in1_0 a V c t) (in1_1 a V c t) (in1_2 a V c t) (in1_3 a V c t) (in1_4 a V c t) (in1_5 a V c t) (in1_6 a V c t) ((dat1 a V c).before 7 t d7) (tr a V c t.val).1 (tr a V c t.val).2 Set.univ _)
  isplitl [T0 T1 T2 T3 T4 G0 G1 G2 G3 G4 G5 G6]
  · isplitl [T0]; · iexact T0
    isplitl [T1]; · iexact T1
    isplitl [T2]; · iexact T2
    isplitl [T3]; · iexact T3
    isplitl [T4]; · iexact T4
    isplitl [G0]; · iexact G0
    isplitl [G1]; · iexact G1
    isplitl [G2]; · iexact G2
    isplitl [G3]; · iexact G3
    isplitl [G4]; · iexact G4
    isplitl [G5]; · iexact G5
    iexact G6
  isplitl [G7]; · iexact G7
  isplitl [HS]; · iexact HS
  iintro ⟨⟨T0, T1, T2, T3, T4, G0, G1, G2, G3, G4, G5, G6⟩, G7, HS⟩
  isplitl [HR T0 T1 T2 T3 T4 HS]
  · isplitl [HR]; · iexact HR
    isplitl [T0 T1 T2 T3 T4]
    · isplitl [T0]; · iexact T0
      isplitl [T1]; · iexact T1
      isplitl [T2]; · iexact T2
      isplitl [T3]; · iexact T3
      iexact T4
    iexact HS
  isplitl [HO]; · iexact HO
  isplitl [G0]; · iapply g0; iexact G0
  isplitl [G1]; · iapply g1; iexact G1
  isplitl [G2]; · iapply g2; iexact G2
  isplitl [G3]; · iapply g3; iexact G3
  isplitl [G4]; · iapply g4; iexact G4
  isplitl [G5]; · iapply g5; iexact G5
  isplitl [G6]; · iapply g6; iexact G6
  iapply (h7 d7); iexact G7

theorem idle7 (i : grid1.Coords) : (!(k1_cond7 i == 1#1)) = true ↔ (i 2).val ≠ 8 := by
  simp only [Bool.not_eq_true', beq_eq_false_iff_ne, ne_eq, cond7]

set_option maxHeartbeats 0 in
theorem body1 (c : Dev nD) : BodyObligation (dat1 a V c) (defs₀ (F := F)) Variants.none () Set.univ := fun t => by
  rw [bigSep_W1, bigSep_W1]
  have h0 : (cfg1 a).idle 0 ((cfg1 a).grid.coords t) = false := rfl
  have h1 : (cfg1 a).idle 1 ((cfg1 a).grid.coords t) = false := rfl
  have h2 : (cfg1 a).idle 2 ((cfg1 a).grid.coords t) = false := rfl
  have h3 : (cfg1 a).idle 3 ((cfg1 a).grid.coords t) = false := rfl
  have h4 : (cfg1 a).idle 4 ((cfg1 a).grid.coords t) = false := rfl
  have h5 : (cfg1 a).idle 5 ((cfg1 a).grid.coords t) = false := rfl
  have h6 : (cfg1 a).idle 6 ((cfg1 a).grid.coords t) = false := rfl
  simp only [h0, h1, h2, h3, h4, h5, h6]
  rw [show (dat1 a V c).owesAt () t.succ = (dat1 a V c).owesAt () t.castSucc from rfl,
    show (dat1 a V c).Φ t.castSucc = inv1 a V c t.val from castSucc_val (inv1 a V c) t,
    show (dat1 a V c).Φ t.succ = inv1 a V c (t.val + 1) from succ_val (inv1 a V c) t]
  by_cases hj : ((grid1.coords t) 2).val = 8
  · rw [show idle1 7 ((pcfg1.gridAt a.1).coords t) = false from Bool.eq_false_iff.mpr fun h => (idle7 _).mp h hj]
    refine core1 a V c t _ _ fun d => ?_
    rw [show (if _ = 8 then out1 a V c t else (dat1 a V c).before 7 t d) = out1 a V c t from if_pos hj]
    exact Entails.of_eq (own_eq c _ _).symm
  · rw [show idle1 7 ((pcfg1.gridAt a.1).coords t) = true from (idle7 _).mpr hj]
    have hf : (pcfg1.win a 7).flush t = false := by
      obtain ⟨h, e⟩ := stays7 t hj
      unfold Window.flush
      have e1 : ¬ (t.val + 1 = (pcfg1.gridAt a.1).N) := fun h' => Nat.ne_of_lt h (h'.trans N_1)
      have e2 : ¬ (∃ h : t.val + 1 < (pcfg1.gridAt a.1).N, (pcfg1.win a 7).index ⟨t.val + 1, h⟩ ≠ (pcfg1.win a 7).index t) := fun ⟨_, hne⟩ => hne e
      rw [decide_eq_false e1, decide_eq_false e2]
      simp
    refine core1 a V c t _ _ fun d => ?_
    rw [show (if _ = 8 then out1 a V c t else (dat1 a V c).before 7 t d) = (dat1 a V c).before 7 t d from if_neg hj]
    dsimp only
    split
    · iintro H
      iexists d
      iapply (Entails.of_eq (own_eq c _ _).symm)
      iexact H
    · rename_i h
      exact absurd (hf.symm.trans h) Bool.false_ne_true

end Cert.Proof.I1

end
-- ==== Proof.I.Ends.lean ====
module

public import proofs.«01_k».proof.Proof.I.Region0
public import proofs.«01_k».proof.Proof.I.Region1
public import Idealize.ShloMosaic.Lib.Pipeline.RegionArraysTS

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The regions as segments of the program, and the program's frame -/

section Ends
variable (a : (pcfg1 (F := F)).Adm) (V : Dev nD → Valuation τ sig (Elt F))

set_option maxHeartbeats 0 in
/-- The attention kernel's invariant from the scoped buffers, whatever they hold. -/
theorem enter1 (c : Dev nD) :
    iprop(iprop(Pipeline.scopedRest (Ix := Unit) (Name := ℕ) (U := UR sig nD τ) (Lvl := ℕ) (Val := Elt F) spec1 c ∗ BI.emp) ∗ Pipeline.prefHeld pre1 c (fun _ => fullShare) a.1) ⊢ (inv1 a V c 0 : sProp 𝕄) := by
  rw [scopedRest1_eq]
  unfold inv1 rest1
  iintro ⟨⟨⟨H0, H1, H2, H3, H4, H5, ⟨%w0, G0⟩, ⟨%w1, G1⟩, ⟨%w2, G2⟩, ⟨%w3, G3⟩, ⟨%w4, G4⟩, ⟨%w5, G5⟩, ⟨%w6, G6⟩, ⟨%w7, G7⟩, ⟨%w8, G8⟩, ⟨%w9, G9⟩, ⟨%w10, G10⟩, ⟨%w11, G11⟩, ⟨%w12, G12⟩, ⟨%w13, G13⟩⟩, -⟩, Ht⟩
  isplitl [H0 H1 H2 H3 H4 H5]
  ·
    isplitl [H0]; · iexact H0
    isplitl [H1]; · iexact H1
    isplitl [H2]; · iexact H2
    isplitl [H3]; · iexact H3
    isplitl [H4]; · iexact H4
    iexact H5
  isplitl [Ht]; · iexact Ht
  iapply (scr_intro c (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) 0 _ _ w0 w1 w2 w3 w4 w5 w6 w7 w8 w9 w10 w11 w12 w13 ⟨fun h => absurd rfl h, fun h => absurd h (by decide), fun h => absurd rfl h.1⟩)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  iexact G13

set_option maxHeartbeats 0 in
theorem leave1 (c : Dev nD) (n : ℕ) :
    (inv1 a V c n : sProp 𝕄) ⊢ iprop(iprop(Pipeline.scopedRest (Ix := Unit) (Name := ℕ) (U := UR sig nD τ) (Lvl := ℕ) (Val := Elt F) spec1 c ∗ BI.emp) ∗ Pipeline.prefHeld pre1 c (fun _ => fullShare) a.1) := by
  rw [scopedRest1_eq]
  unfold inv1 rest1 scr1 scr
  iintro ⟨⟨H0, H1, H2, H3, H4, H5⟩, Ht, ⟨%A0, %Pa, %Pb, -, G0, G1, G2, G3, G4, G5, G6, G7, G8, G9, G10, G11, G12, G13⟩⟩
  isplitr [Ht]
  · isplitl
    ·
      isplitl [H0]; · iexact H0
      isplitl [H1]; · iexact H1
      isplitl [H2]; · iexact H2
      isplitl [H3]; · iexact H3
      isplitl [H4]; · iexact H4
      isplitl [H5]; · iexact H5
      isplitl [G0]; · iexists _; iexact G0
      isplitl [G1]; · iexists _; iexact G1
      isplitl [G2]; · iexists _; iexact G2
      isplitl [G3]; · iexists _; iexact G3
      isplitl [G4]; · iexists _; iexact G4
      isplitl [G5]; · iexists _; iexact G5
      isplitl [G6]; · iexists _; iexact G6
      isplitl [G7]; · iexists _; iexact G7
      isplitl [G8]; · iexists _; iexact G8
      isplitl [G9]; · iexists _; iexact G9
      isplitl [G10]; · iexists _; iexact G10
      isplitl [G11]; · iexists _; iexact G11
      isplitl [G12]; · iexists _; iexact G12
      iexists _; iexact G13
    · iempintro
  · iexact Ht
end Ends

end Cert.Proof.I1

end
-- ==== Proof.I.Ok1.lean ====
module

public import proofs.«01_k».proof.Proof.Gen.KernelIdeal.Launch
public import proofs.«01_k».proof.Proof.Gen.KernelIdeal.Skeleton
public import proofs.«01_k».proof.Proof.Gen.KernelIdeal.Regions
public import Idealize.ShloMosaic.Lib.StableHlo.RunRead

@[expose] public section

set_option maxRecDepth 16384

noncomputable section

namespace Cert.Proof.I1

open Cert.KernelIdeal Cert.KernelIdeal.Gen

open Idealize.ShloMosaic
open Idealize.ShloMosaic.TcCoe

variable {F : FTy → Type} [FloatOps F] [Named F]

/-! ## The bucket block each grid point stages is one of the eight -/

theorem foldl_pred {α β : Type _} (P : α → Prop) (f : α → β → α) (hs : ∀ a b, P a → P (f a b)) (l : List β) (a : α) (h0 : P a) : P (l.foldl f a) := by
  induction l generalizing a with
  | nil => exact h0
  | cons b l ih => exact ih _ (hs a b h0)

theorem le_maxsi {x y : BitVec 32} (hx : x.toInt ≤ 7) (hy : y.toInt ≤ 7) : (IntOp.maxsi x y).toInt ≤ 7 := by
  unfold IntOp.maxsi; split <;> assumption

/-- A running maximum of words at most 7 is at most 7. -/
theorem window_le (x : S16x9.Idx → BitVec 32) (v : S_.Idx → BitVec 32) (hx : ∀ i, (x i).toInt ≤ 7) (hv : ∀ i, (v i).toInt ≤ 7) (j : S16x9.Idx) :
    (Host.reduceWindow IntOp.maxsi ![1, 9] ![1, 1] ![0, 8] ![0, 0] x v reduceWindows_S16x9_S16x9_w1s1p0_0_w9s1p8_0 h_S_ j).toInt ≤ 7 := by
  unfold Host.reduceWindow
  refine foldl_pred (fun r : BitVec 32 => r.toInt ≤ 7) _ (fun a b ha => ?_) _ _ (hv _)
  dsimp only
  split
  · exact le_maxsi ha (hx _)
  · exact le_maxsi ha (hv _)

/-- The index an arg-max returns is one of those it is given, or the initial one. -/
theorem argmax_lt (x : S16x8.Idx → BitVec 1) (y : S16x8.Idx → BitVec 32) (u : S_.Idx → BitVec 1) (v : S_.Idx → BitVec 32)
    (hy : ∀ i, (y i).toNat < 8) (hv : ∀ i, (v i).toNat < 8) (j : S16.Idx) :
    (Host.reduce2 reducer_argmax_i1_i32 x y u v reducesTo_S16x8_S16_d1 h_S_ j).2.toNat < 8 := by
  unfold Host.reduce2
  refine foldl_pred (fun r : BitVec 1 × BitVec 32 => r.2.toNat < 8) _ (fun a b ha => ?_) _ _ (hv _)
  dsimp only [reducer_argmax_i1_i32]
  unfold Scalar.select
  split
  · exact ha
  · exact hy _

theorem word_lt {x : BitVec 32} (h : x.toInt ≤ 7) (h' : IntOp.cmpi .sge x 0#32 = 1#1) : x.toNat < 8 := by
  have h1 : (0#32).sle x = true := by
    cases e : (0#32).sle x
    · unfold IntOp.cmpi at h'; dsimp only at h'; rw [e] at h'; exact absurd h' (by decide)
    · rfl
  have h2 : (0 : Int) ≤ x.toInt := by
    have := BitVec.sle_iff_toInt_le.mp h1
    simpa using this
  have := x.isLt
  rw [BitVec.toInt_eq_toNat_cond] at h h2
  split at h <;> omega

section Lines
variable (X : Valuation τ sig (Elt F))

theorem line6 (i : S144.Idx) : ∃ k : S16x9.Idx, (StableHlo.after hostOps1_6 X (Proc.devRef .tc main_v55) : S144.Idx → BitVec 32) i = (X (Proc.devRef .tc main_v54) : S16x9.Idx → BitVec 32) k := by
  after_reads_simp
  exact ⟨_, rfl⟩

theorem line5 (k : S16x9.Idx) : ∃ j : S16x1.Idx, (StableHlo.after hostOps1_5 X (Proc.devRef .tc main_v54) : S16x9.Idx → BitVec 32) k
    = Scalar.select ((X (Proc.devRef .tc main_v52) : S16x9.Idx → BitVec 1) k) ((X (Proc.devRef .tc main_v49) : S16x9.Idx → BitVec 32) k) ((X (Proc.devRef .tc main_v53) : S16x1.Idx → BitVec 32) j) := by
  after_reads_simp
  exact ⟨_, rfl⟩

theorem line4 (k : S16x9.Idx) : (StableHlo.after hostOps1_4 X (Proc.devRef .tc main_v52) : S16x9.Idx → BitVec 1) k = IntOp.cmpi .sge ((X (Proc.devRef .tc main_v49) : S16x9.Idx → BitVec 32) k) 0#32 := by
  after_reads_simp
  rfl

theorem line4' (k : S16x1.Idx) : ∃ j : S16.Idx, (StableHlo.after hostOps1_4 X (Proc.devRef .tc main_v53) : S16x1.Idx → BitVec 32) k = (X (Proc.devRef .tc main_v50) : S16.Idx → BitVec 32) j := by
  after_reads_simp
  exact ⟨_, rfl⟩

theorem line3 (j : S16.Idx) : ((StableHlo.after hostOps1_3 X (Proc.devRef .tc main_v50) : S16.Idx → BitVec 32) j).toNat < 8 := by
  after_reads_simp
  refine argmax_lt _ _ _ _ (fun i => ?_) (fun i => (by decide : (0#32).toNat < 8)) j
  have := (i 1).isLt
  show (BitVec.ofNat 32 (i 1).val).toNat < 8
  change (i 1).val < 8 at this
  rw [BitVec.toNat_ofNat]; omega

theorem line2 (h : ∀ i, ((X (Proc.devRef .tc main_v48) : S16x9.Idx → BitVec 32) i).toInt ≤ 7) (k : S16x9.Idx) :
    ((StableHlo.after hostOps1_2 X (Proc.devRef .tc main_v49) : S16x9.Idx → BitVec 32) k).toInt ≤ 7 := by
  after_reads_simp
  simp only [cast_eq]
  have h2 : (2147483648#32).toInt ≤ 7 := by decide
  exact window_le _ _ h (fun _ => h2) k

theorem line1 (h : ∀ i, ((X (Proc.devRef .tc main_v47) : S1x9.Idx → BitVec 32) i).toInt ≤ 7) (h' : ∀ i, ((X (Proc.devRef .tc main_c_9) : S_.Idx → BitVec 32) i).toInt ≤ 7) (k : S16x9.Idx) :
    ((StableHlo.after hostOps1_1 X (Proc.devRef .tc main_v48) : S16x9.Idx → BitVec 32) k).toInt ≤ 7 := by
  after_reads_simp
  show (Scalar.select _ ((X (Proc.devRef .tc main_v47) : S1x9.Idx → BitVec 32) _) ((X (Proc.devRef .tc main_c_9) : S_.Idx → BitVec 32) _)).toInt ≤ 7
  unfold Scalar.select
  split
  · exact h _
  · exact h' _

theorem line0 (k : S1x9.Idx) : ((StableHlo.after hostOps1 X (Proc.devRef .tc main_v47) : S1x9.Idx → BitVec 32) k).toInt ≤ 7 := by
  after_reads_simp
  show (IntOp.minsi _ 7#32).toInt ≤ 7
  unfold IntOp.minsi
  split
  · next h =>
    have := BitVec.slt_iff_toInt_lt.mp h
    exact this.le
  · decide

theorem line0' (k : S_.Idx) : ((StableHlo.after hostOps1 X (Proc.devRef .tc main_c_9) : S_.Idx → BitVec 32) k).toInt ≤ 7 := by
  after_reads_simp
  show (4294967295#32).toInt ≤ 7
  decide

end Lines

section Chain
variable (m : (ℓ : Loc nD τ sig) → Buf (Elt F) ℓ) (outs : Outs (F := F)) (c : Dev nD)

theorem v49_le (k : S16x9.Idx) : ((V5 m outs c (Proc.devRef .tc main_v49) : S16x9.Idx → BitVec 32) k).toInt ≤ 7 :=
  line2 _ (line1 _ (line0 _) (line0' _)) k

theorem blk_lt (i : S144.Idx) : ((V9 m outs c (Proc.devRef .tc main_v55) : S144.Idx → BitVec 32) i).toNat < 8 := by
  obtain ⟨k, hk⟩ := line6 (V8 m outs c) i
  obtain ⟨j, hj⟩ := line5 (V7 m outs c) k
  obtain ⟨l, hl⟩ := line4' (V6 m outs c) j
  refine (congrArg BitVec.toNat (hk.trans hj)).trans_lt ?_
  have e7 : V7 m outs c (Proc.devRef .tc main_v49) = V5 m outs c (Proc.devRef .tc main_v49) := (V7_of m outs c main_v49 (by decide)).trans (V6_of m outs c main_v49 (by decide))
  have e6 : V6 m outs c (Proc.devRef .tc main_v49) = V5 m outs c (Proc.devRef .tc main_v49) := V6_of m outs c main_v49 (by decide)
  have e52 : (V7 m outs c (Proc.devRef .tc main_v52) : S16x9.Idx → BitVec 1) k = IntOp.cmpi .sge ((V5 m outs c (Proc.devRef .tc main_v49) : S16x9.Idx → BitVec 32) k) 0#32 :=
    (line4 (V6 m outs c) k).trans (by rw [e6])
  rw [e52, e7]
  unfold Scalar.select
  split
  · next h => exact word_lt (v49_le m outs c k) h
  · exact (congrArg BitVec.toNat hl).trans_lt (line3 (V5 m outs c) l)

end Chain

/-- Tables whose block words are below eight pass the region's check. -/
theorem ok1_of (pf : pre1.Contents (Elt F)) (h : ∀ j, ((pf 4 : S144.Idx → BitVec 32) j).toNat < 8) : ok1 pf := fun i => by
  have hv : ∀ a, (cc1_transform_2 k1_off1_inb numel1_S1 pf i a + 1) * S1024x512.size a ≤ S8192x8192.size a := fun a => by
    match a with
    | ⟨0, _⟩ =>
      have := h ((Rect.unit (s := S144) (k1_off1 i) S1.size (k1_off1_inb i)).point numel1_S1)
      show (((pf 4 : S144.Idx → BitVec 32) ((Rect.unit (s := S144) (k1_off1 i) S1.size (k1_off1_inb i)).point numel1_S1)).toNat + 1) * 1024 ≤ 8192
      omega
    | ⟨1, _⟩ =>
      have := (i 1).isLt
      change (i 1).val < 16 at this
      show ((BitVec.ofNat 32 (i 1).val).toNat + 1) * 512 ≤ 8192
      rw [BitVec.toNat_ofNat]; omega
  exact ⟨hv, .inr (Affine.block_words_dvd (of_decide_eq_true rfl) (by decide))⟩

end Cert.Proof.I1

end
-- ==== Proof.I.Segs.lean ====
module

public import proofs.«01_k».proof.Proof.I.Region0
public import proofs.«01_k».proof.Proof.I.Ends
public import proofs.«01_k».proof.Proof.I.Ok1
public import proofs.«01_k».proof.Proof.Gen.KernelIdeal.Regions
public import Idealize.ShloMosaic.Lib.Pipeline.RegionArraysTS

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The regions as segments of the program -/

section Segments
variable (a0 : (pcfg0 (F := F)).Adm) (a1 : (pcfg1 (F := F)).Adm) (X0 X1 : Dev nD → Valuation τ sig (Elt F))

noncomputable abbrev adms : (p : Fin 2) → (pcfgs (F := F) p).Adm
  | ⟨0, _⟩ => a0
  | ⟨1, _⟩ => a1

noncomputable abbrev dats : (p : Fin 2) → (c : Dev nD) → Dat τ (Elt F) Unit ℕ (UR sig nD τ) ℕ (Pipeline.pin (pcfgs (F := F)) (adms a0 a1) p) c
  | ⟨0, _⟩ => dat0 a0 X0
  | ⟨1, _⟩ => dat1 a1 X1

/-- Every TensorCore cell carries the one round index, at level 0. -/
noncomputable abbrev LL : GSem nD τ sig → Finset Unit := fun g => if g.1.2 = .tc then {()} else ∅
noncomputable abbrev lvl : GSem nD τ sig → Unit → ℕ := fun _ _ => 0

set_option backward.isDefEq.respectTransparency false in
set_option backward.isDefEq.respectTransparency.types false in
/-- The bucket kernel's region. -/
noncomputable def reg0 (hT : ∀ c k, a0.1 k = X0 c (Proc.devRef .tc (pre0.ref k))) : Pipeline.RegionSeg (pcfgs (F := F)) (adms a0 a1) (dats a0 a1 X0 X1) () defs₀ Variants.none LL lvl 0 :=
  Pipeline.RegionSeg.ofHeldInT (pcfgs (F := F)) (adms a0 a1) (dats a0 a1 X0 X1) () defs₀ Variants.none LL lvl 0 (fun _ => 0) (Pipeline.ucRefs τ sig)
    (fun _ => BI.emp) (fun _ => BI.emp) launch0 (fun c => (body0 a0 X0 c).loose) (fun _ _ => rfl) (fun _ => rfl)
    (fun c => (dats a0 a1 X0 X1 0 c).share_full fun _ => rfl)
    (fun c => by
      show iprop(iprop(Pipeline.scopedRest spec0 c ∗ BI.emp) ∗ Pipeline.prefHeld pre0 c (fun _ => fullShare) a0.1) ⊢ (iprop(Pipeline.scopedRest spec0 c ∗ Pipeline.prefHeld pre0 c (fun _ => fullShare) a0.1) : sProp 𝕄)
      iintro ⟨⟨Hs, -⟩, Ht⟩
      isplitl [Hs] <;> iassumption)
    (fun c => by
      show (iprop(Pipeline.scopedRest spec0 c ∗ Pipeline.prefHeld pre0 c (fun _ => fullShare) a0.1) : sProp 𝕄) ⊢ iprop(iprop(Pipeline.scopedRest spec0 c ∗ BI.emp) ∗ Pipeline.prefHeld pre0 c (fun _ => fullShare) a0.1)
      iintro ⟨Hs, Ht⟩
      isplitl [Hs]
      · isplitl; · iexact Hs
        iempintro
      iexact Ht)
    (fun _ => 0)
    { hι := fun c w s => by simp [LL]
      hιb := fun _ _ _ => le_refl _
      hD := fun _ _ _ h => absurd h (lt_irrefl _) }
    (fun _ => BI.emp) X0 (fun _ _ => rfl) hT

set_option backward.isDefEq.respectTransparency false in
set_option backward.isDefEq.respectTransparency.types false in
/-- The attention kernel's region. -/
noncomputable def reg1 (hT : ∀ c k, a1.1 k = X1 c (Proc.devRef .tc (pre1.ref k))) : Pipeline.RegionSeg (pcfgs (F := F)) (adms a0 a1) (dats a0 a1 X0 X1) () defs₀ Variants.none LL lvl 1 :=
  Pipeline.RegionSeg.ofHeldInT (pcfgs (F := F)) (adms a0 a1) (dats a0 a1 X0 X1) () defs₀ Variants.none LL lvl 1 (fun _ => 0) (Pipeline.ucRefs τ sig)
    (fun _ => BI.emp) (fun _ => BI.emp) launch1 (fun c => (body1 a1 X1 c).loose) (fun _ _ => rfl) (fun _ => rfl)
    (fun c => (dats a0 a1 X0 X1 1 c).share_full fun _ => rfl)
    (fun c => enter1 a1 X1 c)
    (fun c => leave1 a1 X1 c _)
    (fun _ => 0)
    { hι := fun c w s => by simp [LL]
      hιb := fun _ _ _ => le_refl _
      hD := fun _ _ _ h => absurd h (lt_irrefl _) }
    (fun _ => BI.emp) X1 (fun _ _ => rfl) hT

/-- The bucket kernel's region writes its result buffer only. -/
theorem after0 (c : Dev nD) (r : Ref sig .tc) :
    Pipeline.afterRegion (dat0 a0 X0 c) (X0 c) (Proc.devRef .tc r) = Function.update (X0 c) (Proc.devRef .tc main_v20) ((dat0 a0 X0 c).arrAt 2 (cfg0 a0).N) (Proc.devRef .tc r) := by
  have off : ∀ r : Ref sig .tc, r ≠ main_v20 → X0 c (Proc.devRef .tc r) = Function.update (X0 c) (Proc.devRef .tc main_v20) ((dat0 a0 X0 c).arrAt 2 (cfg0 a0).N) (Proc.devRef .tc r) :=
    fun r hr => (Function.update_of_ne (fun e => hr (Proc.devRef_injective _ e)) _ _).symm
  by_cases h : ∃ w, r = Pipeline.arrRef spec0 w
  · obtain ⟨w, rfl⟩ := h
    refine (Pipeline.afterRegion_arr (dat0 a0 X0 c) (X0 c) winFacts0.arr_inj w).trans ?_
    match w with
    | ⟨0, _⟩ => exact ((dat0 a0 X0 c).arrAt_in 0 rfl _).trans (off main_v18 (by decide))
    | ⟨1, _⟩ => exact ((dat0 a0 X0 c).arrAt_in 1 rfl _).trans (off main_v19 (by decide))
    | ⟨2, _⟩ => exact (Function.update_self (Proc.devRef .tc main_v20) _ (X0 c)).symm
  · exact (Pipeline.afterRegion_of_not_arr (dat0 a0 X0 c) (X0 c) fun w e => h ⟨w, e⟩).trans (off r fun hr => h ⟨2, hr⟩)

theorem in1_of : ∀ w : Fin 8, w ≠ 7 → (spec1 w).isOut = false := by decide

/-- The attention kernel's region writes its result buffer only. -/
theorem after1 (c : Dev nD) (r : Ref sig .tc) :
    Pipeline.afterRegion (dat1 a1 X1 c) (X1 c) (Proc.devRef .tc r) = Function.update (X1 c) (Proc.devRef .tc main_v75) ((dat1 a1 X1 c).arrAt 7 (cfg1 a1).N) (Proc.devRef .tc r) := by
  have off : ∀ r : Ref sig .tc, r ≠ main_v75 → X1 c (Proc.devRef .tc r) = Function.update (X1 c) (Proc.devRef .tc main_v75) ((dat1 a1 X1 c).arrAt 7 (cfg1 a1).N) (Proc.devRef .tc r) :=
    fun r hr => (Function.update_of_ne (fun e => hr (Proc.devRef_injective _ e)) _ _).symm
  by_cases h : ∃ w, r = Pipeline.arrRef spec1 w
  · obtain ⟨w, rfl⟩ := h
    refine (Pipeline.afterRegion_arr (dat1 a1 X1 c) (X1 c) winFacts1.arr_inj w).trans ?_
    by_cases hw : w = (7 : Fin 8)
    · subst hw; exact (Function.update_self (Proc.devRef .tc main_v75) _ (X1 c)).symm
    · exact ((dat1 a1 X1 c).arrAt_in w (in1_of w hw) _).trans (off (Pipeline.arrRef spec1 w) fun e => hw (winFacts1.arr_inj e))
  · exact (Pipeline.afterRegion_of_not_arr (dat1 a1 X1 c) (X1 c) fun w e => h ⟨w, e⟩).trans (off r fun hr => h ⟨7, hr⟩)

theorem sub0 : Pipeline.arrRefs (τ := τ) spec0 ⊆ Pipeline.ucRefs τ sig := Pipeline.arrRefs_sub_ucRefs _ winFacts0.arr_unscoped
theorem tsub0 : Pipeline.tblRefs (τ := τ) pre0 ⊆ Pipeline.ucRefs τ sig := Pipeline.tblRefs_sub_ucRefs _ preFacts0.unscoped
theorem sub1 : Pipeline.arrRefs (τ := τ) spec1 ⊆ Pipeline.ucRefs τ sig := Pipeline.arrRefs_sub_ucRefs _ winFacts1.arr_unscoped
theorem tsub1 : Pipeline.tblRefs (τ := τ) pre1 ⊆ Pipeline.ucRefs τ sig := Pipeline.tblRefs_sub_ucRefs _ preFacts1.unscoped

theorem held_after (c : Dev nD) {A B : Valuation τ sig (Elt F)} (h : ∀ r : Ref sig .tc, A (Proc.devRef .tc r) = B (Proc.devRef .tc r)) :
    (StableHlo.held (c : Thread nD τ) (Pipeline.ucRefs τ sig) A : sProp 𝕄) = StableHlo.held (c : Thread nD τ) (Pipeline.ucRefs τ sig) B :=
  StableHlo.held_congr _ fun b hb => by
    obtain ⟨r, -, rfl⟩ := Finset.mem_map.mp (Finset.mem_filter.mp hb).1
    exact h r

/-- What a core owes between the segments: nothing. -/
noncomputable abbrev idleAt : Fin 3 → Dev nD → sProp 𝕄 := fun _ c => iprop(∃ W, owes (c : Thread nD τ) (0 : CellTallies nD τ sig Unit) W)

theorem pre_of (c : Dev nD) (H : sProp 𝕄) (i : Fin 3) :
    iprop(H ∗ idleAt i c) ⊢ (iprop(H ∗ ((∃ W, owes (c : Thread nD τ) (0 : CellTallies nD τ sig Unit) W) ∗ BI.emp ∗ BI.emp)) : sProp 𝕄) := by
  iintro ⟨H, O⟩
  isplitl [H]; · iexact H
  isplitl [O]; · iexact O
  isplitl <;> iempintro

theorem post_of (c : Dev nD) (H : sProp 𝕄) (i : Fin 3) :
    (iprop(H ∗ ((∃ W, owes (c : Thread nD τ) (0 : CellTallies nD τ sig Unit) W) ∗ BI.emp ∗ BI.emp)) : sProp 𝕄) ⊢ iprop(H ∗ idleAt i c) := by
  iintro ⟨H, O, -, -⟩
  isplitl [H]; · iexact H
  iexact O

theorem pre0_of (hT : ∀ c k, a0.1 k = X0 c (Proc.devRef .tc (pre0.ref k))) (c : Dev nD) :
    iprop(StableHlo.held (c : Thread nD τ) (Pipeline.ucRefs τ sig) (X0 c) ∗ idleAt 0 c) ⊢ (reg0 a0 a1 X0 X1 hT).pre c := by
  refine (pre_of c _ 0).trans ?_
  exact Pipeline.RegionSeg.ofHeldInT_pre (pcs := pcfgs (F := F)) (a := adms a0 a1) (pdats := dats a0 a1 X0 X1) (p := 0) (D := fun _ => 0) (kit := launch0) (X := fun _ => BI.emp) (Y := fun _ => BI.emp) (R := fun _ => BI.emp) (W := X0) (b := fun _ => 0) sub0 tsub0 c

theorem post0_of (hT : ∀ c k, a0.1 k = X0 c (Proc.devRef .tc (pre0.ref k))) (c : Dev nD) :
    (reg0 a0 a1 X0 X1 hT).post c ⊢ iprop(StableHlo.held (c : Thread nD τ) (Pipeline.ucRefs τ sig) (Function.update (X0 c) (Proc.devRef .tc main_v20) ((dat0 a0 X0 c).arrAt 2 (cfg0 a0).N)) ∗ idleAt 1 c) := by
  rw [← held_after c (after0 a0 X0 c)]
  exact (Pipeline.RegionSeg.ofHeldInT_post (pcs := pcfgs (F := F)) (a := adms a0 a1) (pdats := dats a0 a1 X0 X1) (p := 0) (D := fun _ => 0) (kit := launch0) (X := fun _ => BI.emp) (Y := fun _ => BI.emp) (R := fun _ => BI.emp) (W := X0) (b := fun _ => 0) sub0 tsub0 c).trans (post_of c _ 1)

theorem pre1_of (hT : ∀ c k, a1.1 k = X1 c (Proc.devRef .tc (pre1.ref k))) (c : Dev nD) :
    iprop(StableHlo.held (c : Thread nD τ) (Pipeline.ucRefs τ sig) (X1 c) ∗ idleAt 1 c) ⊢ (reg1 a0 a1 X0 X1 hT).pre c := by
  refine (pre_of c _ 1).trans ?_
  exact Pipeline.RegionSeg.ofHeldInT_pre (pcs := pcfgs (F := F)) (a := adms a0 a1) (pdats := dats a0 a1 X0 X1) (p := 1) (D := fun _ => 0) (kit := launch1) (X := fun _ => BI.emp) (Y := fun _ => BI.emp) (R := fun _ => BI.emp) (W := X1) (b := fun _ => 0) sub1 tsub1 c

theorem post1_of (hT : ∀ c k, a1.1 k = X1 c (Proc.devRef .tc (pre1.ref k))) (c : Dev nD) :
    (reg1 a0 a1 X0 X1 hT).post c ⊢ iprop(StableHlo.held (c : Thread nD τ) (Pipeline.ucRefs τ sig) (Function.update (X1 c) (Proc.devRef .tc main_v75) ((dat1 a1 X1 c).arrAt 7 (cfg1 a1).N)) ∗ idleAt 2 c) := by
  rw [← held_after c (after1 a1 X1 c)]
  exact (Pipeline.RegionSeg.ofHeldInT_post (pcs := pcfgs (F := F)) (a := adms a0 a1) (pdats := dats a0 a1 X0 X1) (p := 1) (D := fun _ => 0) (kit := launch1) (X := fun _ => BI.emp) (Y := fun _ => BI.emp) (R := fun _ => BI.emp) (W := X1) (b := fun _ => 0) sub1 tsub1 c).trans (post_of c _ 2)

end Segments

end Cert.Proof.I1

end
-- ==== Proof.I.Frame.lean ====
module

public import proofs.«01_k».proof.Proof.I.Region0
public import proofs.«01_k».proof.Proof.I.Segs
public import proofs.«01_k».proof.Proof.I.Ok1
public import proofs.«01_k».proof.Proof.Gen.KernelIdeal.Regions
public import Idealize.ShloMosaic.Lib.Pipeline.RegionArraysTS

@[expose] public section

set_option maxRecDepth 16384

noncomputable section

namespace Cert.Proof.I1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The program's frame -/

section Segments
variable (a0 : (pcfg0 (F := F)).Adm) (a1 : (pcfg1 (F := F)).Adm) (X0 X1 : Dev nD → Valuation τ sig (Elt F))

/-- The launch element: the staging cells' rounds. -/
noncomputable abbrev launchEl : UR sig nD τ :=
  initOf (Pipeline.cells (Pipeline.pin (pcfgs (F := F)) (adms a0 a1)) (cellOf_inj (adms a0 a1))) (Pipeline.launchToks (Pipeline.pin (pcfgs (F := F)) (adms a0 a1)) (cellOf_inj (adms a0 a1)))

theorem fund : (ownU (launchEl a0 a1) : sProp 𝕄) ⊢ |={Set.univ}=> iprop(BI.own (emb₁ (launchEl a0 a1)) ∗ bigSep Finset.univ fun _ : Dev nD => (BI.emp : sProp 𝕄)) := by
  iintro Hu; imodintro
  isplitl [Hu]
  · iapply (show (ownU (launchEl a0 a1) : sProp 𝕄) ⊢ BI.own (emb₁ (launchEl a0 a1)) from .rfl)
    iexact Hu
  iapply (show (BI.emp : sProp 𝕄) ⊢ bigSep Finset.univ (fun _ : Dev nD => (BI.emp : sProp 𝕄)) from by rw [BI.bigSep_emp_const])
  iempintro

theorem start1 (ρ : Dev nD → PrngReg) (c : Dev nD) :
    (iprop(unscopedSems0 c ∗ owes (c : Thread nD τ) (0 : CellTallies nD τ sig Unit) ∅ ∗ Pipeline.launchCred (fun _ => 0) c ∗ prngReg c (ρ c) ∗ BI.emp) : sProp 𝕄) ⊢ idleAt 0 c := by
  iintro ⟨-, O, -⟩
  iexists ∅; iexact O

theorem start (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts LL lvl)
      ⊢ (|={Set.univ}=> bigSep Finset.univ (idleAt 0) : sProp 𝕄) := by
  have h : (bigSep Finset.univ fun c : Dev nD => (iprop(unscopedSems0 c ∗ owes (c : Thread nD τ) (0 : CellTallies nD τ sig Unit) ∅ ∗ Pipeline.launchCred (fun _ => 0) c ∗ prngReg c (ρ c) ∗ BI.emp) : sProp 𝕄)) ⊢ bigSep Finset.univ (idleAt (F := F) 0) :=
    bigSep_mono fun c _ => start1 ρ c
  iintro ⟨H, -⟩
  imodintro
  iapply h
  iexact H

end Segments

section Data
variable (m : (ℓ : Loc nD τ sig) → Buf (Elt F) ℓ)

/-- The bucket kernel's tables, and the buckets it leaves. -/
noncomputable def adm0 : (pcfg0 (F := F)).Adm := ⟨fun k => V1 m 0 (Proc.devRef .tc (pre0.ref k)), trivial⟩
noncomputable def res0 (c : Dev nD) : Buf (Elt F) ((c : Thread nD τ).loc main_v20) := (dat0 (adm0 m) (V1 m) c).arrAt 2 (cfg0 (adm0 m)).N

/-- What the first region leaves, over the program's launch contents elsewhere. -/
noncomputable def outsA : Outs (F := F) := fun _ r c => if h : r = main_v20 then h ▸ res0 m c else m ((c : Thread nD τ).loc r)

/-- The attention kernel's tables, and the result it leaves. -/
noncomputable def adm1 : (pcfg1 (F := F)).Adm := ⟨fun k => V9 m (outsA m) 0 (Proc.devRef .tc (pre1.ref k)), ok1_of _ (blk_lt m (outsA m) 0)⟩
noncomputable def res1 (c : Dev nD) : Buf (Elt F) ((c : Thread nD τ).loc main_v75) := (dat1 (adm1 m) (V9 m (outsA m)) c).arrAt 7 (cfg1 (adm1 m)).N

/-- What the two regions leave. -/
noncomputable def outsB : Outs (F := F) := fun _ r c => if h : r = main_v20 then h ▸ res0 m c else if h : r = main_v75 then h ▸ res1 m c else m ((c : Thread nD τ).loc r)

theorem outsA_v20 (k : ℕ) (c : Dev nD) : outsA m k main_v20 c = res0 m c := by unfold outsA; rw [dif_pos rfl]
theorem outsB_v20 (k : ℕ) (c : Dev nD) : outsB m k main_v20 c = res0 m c := by unfold outsB; rw [dif_pos rfl]
theorem outsB_v75 (k : ℕ) (c : Dev nD) : outsB m k main_v75 c = res1 m c := by
  unfold outsB; rw [dif_neg (by decide), dif_pos rfl]

theorem V2_eq (c : Dev nD) : V2 m (outsB m) c = Function.update (V1 m c) (Proc.devRef .tc main_v20) (res0 m c) := by
  unfold V2; rw [outsB_v20]

theorem V9_eq (c : Dev nD) : V9 m (outsB m) c = V9 m (outsA m) c := by
  unfold V9 V8 V7 V6 V5 V4 V3 V2
  rw [outsA_v20, outsB_v20]

theorem V10_eq (c : Dev nD) : V10 m (outsB m) c = Function.update (V9 m (outsA m) c) (Proc.devRef .tc main_v75) (res1 m c) := by
  unfold V10; rw [outsB_v75, V9_eq]

theorem tbl0 (c : Dev nD) (k : Fin pre0.K) : (adm0 m).1 k = V1 m c (Proc.devRef .tc (pre0.ref k)) := by
  obtain rfl : c = 0 := Subsingleton.elim _ _; rfl
theorem tbl1 (c : Dev nD) (k : Fin pre1.K) : (adm1 m).1 k = V9 m (outsA m) c (Proc.devRef .tc (pre1.ref k)) := by
  obtain rfl : c = 0 := Subsingleton.elim _ _; rfl

end Data

set_option maxHeartbeats 0 in
/-- Every execution of the program terminates and leaves its arguments as they were. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  frame_cond m emb₁ () Variants.none LL lvl (fun g hg => if_neg hg) ρ (outsB m) (adms (adm0 m) (adm1 m)) (dats (adm0 m) (adm1 m) (V1 m) (V9 m (outsA m))) (fun _ => 0) (fun _ => BI.emp) (launchEl (adm0 m) (adm1 m)) (fund (adm0 m) (adm1 m))
    idleAt (start ρ) (fun _ => .rfl) (reg0 (adm0 m) (adm1 m) (V1 m) (V9 m (outsA m)) (tbl0 m)) (pre0_of _ _ _ _ (tbl0 m)) (fun c => by rw [V2_eq]; exact post0_of _ _ _ _ (tbl0 m) c)
    (reg1 (adm0 m) (adm1 m) (V1 m) (V9 m (outsA m)) (tbl1 m)) (fun c => by rw [V9_eq]; exact pre1_of _ _ _ _ (tbl1 m) c) (fun c => by rw [V10_eq]; exact post1_of _ _ _ _ (tbl1 m) c)

end Cert.Proof.I1

end
-- ==== Proof.Mm.Base.lean ====
module

public import Idealize.ShloMosaic.Lib.MatmulPlain
public import Idealize.ShloMosaic.Lib.StackMember
public import Idealize.ShloMosaic.Lib.ValueIdx
public import Idealize.ShloMosaic.Lib.Pipeline.Value
public import Idealize.ShloMosaic.Lib.ValueLayout
public import Idealize.ShloMosaic.Lib.IdealHost

/-! Products of matrices read at an index, for the launches that multiply. -/

@[expose] public section

namespace Cert.Proof.Mm

open Idealize.ShloMosaic Idealize.ShloMosaic.ValueIdx

theorem hz : (![0, 0] : Fin 2 → Nat) = fun _ => 0 := funext fun a => by fin_cases a <;> rfl

/-- Row `r` of one matrix times column `c` of another, over the extended reals. -/
noncomputable def dot {M K N : ℕ} (x : (⟨2, ![M, K]⟩ : Shape).Idx → EReal) (w : (⟨2, ![K, N]⟩ : Shape).Idx → EReal) (r : Fin M) (c : Fin N) : EReal :=
  ∑ k : Fin K, x (ix2 r k) * w (ix2 k c)

/-- A block's product is the whole arrays' at the block's place. -/
theorem dot_congr {M K N M' N' : ℕ} {x : (⟨2, ![M, K]⟩ : Shape).Idx → EReal} {w : (⟨2, ![K, N]⟩ : Shape).Idx → EReal}
    {X : (⟨2, ![M', K]⟩ : Shape).Idx → EReal} {W : (⟨2, ![K, N']⟩ : Shape).Idx → EReal} {r : Fin M} {c : Fin N} {R : Fin M'} {C : Fin N'}
    (hx : ∀ k, x (ix2 r k) = X (ix2 R k)) (hw : ∀ k, w (ix2 k c) = W (ix2 k C)) : dot x w r c = dot X W R C :=
  Finset.sum_congr rfl fun k _ => by rw [hx, hw]

/-- The matrix unit's product into a zero accumulator. -/
theorem matmul_zero {M K N : ℕ} {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant ⟨2, ![M, N]⟩ .f32 0x00000000#32) (ix2 r c) = dot x w r c := by
  rw [Ideal.matmul_plain_apply]
  show Ideal.ofBits .f32 0x00000000#32 + _ = _
  rw [Ideal.ofBits_zero_f32, zero_add]; rfl

/-- The host's product. -/
theorem host_dot {M K N : ℕ} {φ₁ φ₂ : FTy} (prec : Option ContractPrecision)
    (x : FVec Ideal ⟨2, ![M, K]⟩ φ₁) (w : FVec Ideal ⟨2, ![K, N]⟩ φ₂) (r : Fin M) (c : Fin N) :
    Host.dotGeneral (DotDims.plain M K N) prec x w (ix2 r c) = dot x w r c :=
  StackMember.dotGeneral_plain_apply prec x w r c

/-- An index of a matrix is known from its two coordinates. -/
theorem ix2_of {n0 n1 : ℕ} {i : (⟨2, ![n0, n1]⟩ : Shape).Idx} {R : Fin n0} {C : Fin n1} (h0 : (i 0).val = R.val) (h1 : (i 1).val = C.val) :
    i = ix2 R C := by
  obtain rfl : i 0 = R := Fin.ext h0
  obtain rfl : i 1 = C := Fin.ext h1
  exact eq_ix2 i

/-- The product of two blocks that lie in two matrices at `e` and `f`. -/
theorem dot_blk {M K N M' N' : ℕ} {X : (⟨2, ![M', K]⟩ : Shape).Idx → EReal} {W : (⟨2, ![K, N']⟩ : Shape).Idx → EReal}
    {e : (⟨2, ![M, K]⟩ : Shape).Idx → (⟨2, ![M', K]⟩ : Shape).Idx} {f : (⟨2, ![K, N]⟩ : Shape).Idx → (⟨2, ![K, N']⟩ : Shape).Idx}
    {r : Fin M} {c : Fin N} {R : Fin M'} {C : Fin N'}
    (h0 : ∀ k, (e (ix2 r k) 0).val = R.val) (h1 : ∀ k, (e (ix2 r k) 1).val = k.val)
    (h2 : ∀ k, (f (ix2 k c) 0).val = k.val) (h3 : ∀ k, (f (ix2 k c) 1).val = C.val) :
    dot (fun i => X (e i)) (fun i => W (f i)) r c = dot X W R C :=
  dot_congr (fun k => congrArg X (ix2_of (h0 k) (h1 k))) (fun k => congrArg W (ix2_of (h2 k) (h3 k)))

/-- A column of the `n` columns from `o` on. -/
def col {n N : ℕ} (o : ℕ) (h : o + n ≤ N) (q : Fin n) : Fin N := ⟨o + q.val, Nat.lt_of_lt_of_le (Nat.add_lt_add_left q.isLt o) h⟩

/-- The columns from `o` on of the host's product. -/
theorem host_cols {M K N n : ℕ} {φ₁ φ₂ : FTy} (prec : Option ContractPrecision) (o : ℕ) (ho : o + n ≤ N)
    (x : FVec Ideal ⟨2, ![M, K]⟩ φ₁) (w : FVec Ideal ⟨2, ![K, N]⟩ φ₂) (h : (⟨2, ![M, N]⟩ : Shape).Slices ![0, o] ⟨2, ![M, n]⟩) (r : Fin M) (c : Fin n) :
    extractStridedSlice ⟨2, ![M, n]⟩ ![0, o] (Host.dotGeneral (DotDims.plain M K N) prec x w) h (ix2 r c) = dot x w r (col o ho c) :=
  (slice2_axis1_apply o _ h r c (col o ho c) rfl).trans (host_dot prec x w r _)

/-- Columns of columns of the host's product. -/
theorem host_cols2 {M K N n n' : ℕ} {φ₁ φ₂ : FTy} (prec : Option ContractPrecision) (o o' : ℕ) (ho : o + n ≤ N) (ho' : o' + n' ≤ n)
    (x : FVec Ideal ⟨2, ![M, K]⟩ φ₁) (w : FVec Ideal ⟨2, ![K, N]⟩ φ₂) (h : (⟨2, ![M, N]⟩ : Shape).Slices ![0, o] ⟨2, ![M, n]⟩)
    (h' : (⟨2, ![M, n]⟩ : Shape).Slices ![0, o'] ⟨2, ![M, n']⟩) (r : Fin M) (c : Fin n') :
    extractStridedSlice ⟨2, ![M, n']⟩ ![0, o'] (extractStridedSlice ⟨2, ![M, n]⟩ ![0, o] (Host.dotGeneral (DotDims.plain M K N) prec x w) h) h' (ix2 r c)
      = dot x w r (col o ho (col o' ho' c)) :=
  (slice2_axis1_apply o' _ h' r c (col o' ho' c) rfl).trans (host_cols prec o ho x w h r _)

/-- The sigmoid by the hyperbolic tangent, with the halves as words. -/
noncomputable def sigm (a : EReal) : EReal :=
  Ideal.ofBits .f32 0x3F000000#32 * Ideal.tanh (Ideal.ofBits .f32 0x3F000000#32 * a) + Ideal.ofBits .f32 0x3F000000#32

/-- The sigmoid by the exponential, with the ones as words. -/
noncomputable def hsigm (a : EReal) : EReal :=
  Ideal.div (Ideal.ofBits .f32 0x3F800000#32) (Ideal.ofBits .f32 0x3F800000#32 + Ideal.exp (-a))

theorem half_eq : Ideal.ofBits .f32 0x3F000000#32 = ((1 / 2 : ℝ) : EReal) := by
  simp [Ideal.ofBits, Ideal.ieee, -EReal.coe_mul]; norm_num

theorem tanh_half (r : ℝ) : 1 / 2 * Real.tanh (1 / 2 * r) + 1 / 2 = (1 + Real.exp (-r))⁻¹ := by
  have h1 : Real.exp (1 / 2 * r) * Real.exp (-(1 / 2 * r)) = 1 := by rw [← Real.exp_add, add_neg_cancel, Real.exp_zero]
  have h2 : Real.exp (-r) = Real.exp (-(1 / 2 * r)) * Real.exp (-(1 / 2 * r)) := by rw [← Real.exp_add]; congr 1; ring
  have p1 := Real.exp_pos (1 / 2 * r)
  have p2 := Real.exp_pos (-(1 / 2 * r))
  rw [Real.tanh_eq_sinh_div_cosh, Real.sinh_eq, Real.cosh_eq, h2]
  generalize Real.exp (1 / 2 * r) = a at *
  generalize Real.exp (-(1 / 2 * r)) = b at *
  obtain rfl : a = b⁻¹ := eq_inv_of_mul_eq_one_left h1
  field_simp
  ring

theorem sigm_eq (a : EReal) : sigm a = hsigm a := by
  unfold sigm hsigm
  rw [Ideal.ofBits_one_f32, half_eq]
  show _ = Ideal.logistic a
  induction a with
  | bot =>
    rw [EReal.coe_mul_bot_of_pos (by norm_num), Ideal.tanh_bot, Ideal.logistic_bot, ← EReal.coe_one, ← EReal.coe_neg, ← EReal.coe_mul,
      ← EReal.coe_add, ← EReal.coe_zero]
    norm_num
  | top =>
    rw [EReal.coe_mul_top_of_pos (by norm_num), Ideal.tanh_top, Ideal.logistic_top]
    norm_cast; norm_num
  | coe r =>
    rw [← EReal.coe_mul, Ideal.tanh_coe, Ideal.logistic_coe, ← tanh_half]
    norm_cast

end Cert.Proof.Mm
-- ==== Proof.Mm.Up.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Mm.Base
public import Idealize.ShloMosaic.Lib.Quiescent

/-! The first half of the feed-forward network: block by block the squared positive part of the product. -/

@[expose] public section

noncomputable section

open Idealize.ShloMosaic Idealize.ShloMosaic.TcCoe Idealize.SL.Sem Idealize.ShloMosaic.ValueIdx
open Idealize.ShloMosaic.Pipeline (Dat)

namespace Cert.Proof.Mm.Up

open Cert.Kernel2Ideal Cert.Kernel2Ideal.Gen

variable (m : (ℓ : Loc nD τ sig) → Buf (Elt Ideal) ℓ) (ρ : Dev nD → PrngReg)

/-- The squared positive part. -/
def relu2 (a : EReal) : EReal := max a 0 * max a 0

/-- What the result is shown to hold. -/
def G (c : Dev nD) : Vec Ideal S8192x16384 .bf16 := fun i =>
  relu2 (dot (M := 8192) (K := 4096) (N := 16384) (m ((c : Thread nD τ).loc main_arg0)) (m ((c : Thread nD τ).loc main_arg1)) (i 0) (i 1))

theorem pay_apply (x : Vec Ideal S2048x4096 .bf16) (w : Vec Ideal S4096x512 .f32) (r : Fin 2048) (c : Fin 512) :
    k0_pay1 (F := Ideal) x w (ix2 r c) = relu2 (dot (M := 2048) (K := 4096) (N := 512) x w r c) := by
  have h := matmul_zero (φ₁ := .bf16) none x (truncf (F := Ideal) .bf16 w bitsLt_bf16_f32) r c
  have z : (Scalar.ofBits .f32 0x00000000#32 : Ideal .f32) = (0 : EReal) := Ideal.ofBits_zero_f32
  show max (FloatOps.matmul (DotDims.plain 2048 4096 512) none x (truncf (F := Ideal) .bf16 w bitsLt_bf16_f32) (constant ⟨2, ![2048, 512]⟩ .f32 0x00000000#32) (ix2 r c)) (Scalar.ofBits .f32 0x00000000#32 : Ideal .f32)
    * max (FloatOps.matmul (DotDims.plain 2048 4096 512) none x (truncf (F := Ideal) .bf16 w bitsLt_bf16_f32) (constant ⟨2, ![2048, 512]⟩ .f32 0x00000000#32) (ix2 r c)) (Scalar.ofBits .f32 0x00000000#32 : Ideal .f32) = _
  rw [h, z]; rfl

/-- The result's blocks in the order of the grid. -/
theorem place : ∀ t : Fin cfg0.N, win0_2.index t 0 = t.val / 32 ∧ win0_2.index t 1 = t.val % 32 :=
  (by decide +kernel : ∀ t : Fin grid0.N, win0_2.index t 0 = t.val / 32 ∧ win0_2.index t 1 = t.val % 32)

/-- The blocks of the two operands at a point lie where the result's block does. -/
theorem idx : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

theorem flushed_eq (c : Dev nD) (t : Fin cfg0.N) :
    (dats m 0 c).flushed 2 t = (win0_2.blk t).view.read (Elt Ideal) (G m c) := by
  rw [Value.flushed2]
  unfold out0_2
  rw [View.canon_unit_zero hz, View.ld_unit_zero hz, View.ld_unit_zero hz]
  funext y
  obtain ⟨r, q, rfl⟩ : ∃ (r : Fin 2048) (q : Fin 512), y = ix2 r q := ⟨y 0, y 1, eq_ix2 y⟩
  refine (pay_apply _ _ r q).trans ?_
  obtain ⟨h0, h1, h2, h3⟩ := idx t
  refine congrArg relu2 (dot_congr (fun k => ?_) (fun k => ?_))
  · show m ((c : Thread nD τ).loc main_arg0) ((win0_0.blk t).view.emb (ix2 r k)) = _
    refine congrArg (m ((c : Thread nD τ).loc main_arg0)) (funext fun a => Fin.ext ?_)
    match a with
    | ⟨0, _⟩ => show win0_0.index t 0 * 2048 + 1 * r.val = win0_2.index t 0 * 2048 + 1 * r.val; rw [h0]
    | ⟨1, _⟩ => show win0_0.index t 1 * 4096 + 1 * k.val = k.val; rw [h1]; omega
  · show m ((c : Thread nD τ).loc main_arg1) ((win0_1.blk t).view.emb (ix2 k q)) = _
    refine congrArg (m ((c : Thread nD τ).loc main_arg1)) (funext fun a => Fin.ext ?_)
    match a with
    | ⟨0, _⟩ => show win0_1.index t 0 * 4096 + 1 * k.val = k.val; rw [h2]; omega
    | ⟨1, _⟩ => show win0_1.index t 1 * 512 + 1 * q.val = win0_2.index t 1 * 512 + 1 * q.val; rw [h3]

theorem mem_blk (t : Fin cfg0.N) (i : S8192x16384.Idx) :
    i ∈ ((cfg0.win 2).blk t).view.set ↔ (t.val / 32 * 2048 ≤ (i 0).val ∧ (i 0).val < t.val / 32 * 2048 + 2048)
      ∧ t.val % 32 * 512 ≤ (i 1).val ∧ (i 1).val < t.val % 32 * 512 + 512 := by
  show i ∈ ((View.whole main_v0).slice (win0_2.rect t)).set ↔ _
  rw [View.set_slice_whole, Rect.mem_set_unit]
  obtain ⟨h0, h1⟩ := place t
  have e0 : (win0_2.index t 0 * 2048 ≤ (i 0).val ∧ (i 0).val < win0_2.index t 0 * 2048 + 2048) ↔ (t.val / 32 * 2048 ≤ (i 0).val ∧ (i 0).val < t.val / 32 * 2048 + 2048) := by rw [h0]
  have e1 : (win0_2.index t 1 * 512 ≤ (i 1).val ∧ (i 1).val < win0_2.index t 1 * 512 + 512) ↔ (t.val % 32 * 512 ≤ (i 1).val ∧ (i 1).val < t.val % 32 * 512 + 512) := by rw [h1]
  refine ⟨fun h => ⟨e0.mp (h 0), e1.mp (h 1)⟩, fun h a => ?_⟩
  match a with
  | ⟨0, _⟩ => exact e0.mpr h.1
  | ⟨1, _⟩ => exact e1.mpr h.2

theorem cover (i : S8192x16384.Idx) : ∃ t : Fin cfg0.N, (cfg0.win 2).flush t = true ∧ i ∈ ((cfg0.win 2).blk t).view.set := by
  have h0 : (i 0).val < 8192 := (i 0).isLt
  have h1 : (i 1).val < 16384 := (i 1).isLt
  have hN : cfg0.N = 128 := N_0
  refine ⟨⟨(i 0).val / 2048 * 32 + (i 1).val / 512, by omega⟩, flush0_2 _, (mem_blk _ i).mpr ?_⟩
  dsimp only
  omega

theorem final (c : Dev nD) : (dats m 0 c).arrAt 2 cfg0.N = G m c :=
  (dats m 0 c).arrAt_eq_of_cover 2 (G m c) (fun t _ => flushed_eq m c t) cover

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference2Ideal.Value.run (F := Ideal) m' ρ')
  rw [(hagree c).1, (hagree c).2]
  funext i
  obtain ⟨r, q, rfl⟩ : ∃ (r : Fin 8192) (q : Fin 16384), i = ix2 r q := ⟨i 0, i 1, eq_ix2 i⟩
  have z : (Scalar.ofBits .f32 0x00000000#32 : Ideal .f32) = (0 : EReal) := Ideal.ofBits_zero_f32
  show max (Host.dotGeneral (φ₁ := .f32) (φ₂ := .f32) (DotDims.plain 8192 4096 16384) none _ _ (ix2 r q)) (Scalar.ofBits .f32 0x00000000#32 : Ideal .f32)
    * max (Host.dotGeneral (φ₁ := .f32) (φ₂ := .f32) (DotDims.plain 8192 4096 16384) none _ _ (ix2 r q)) (Scalar.ofBits .f32 0x00000000#32 : Ideal .f32) = _
  rw [host_dot, z]
  rfl

end Cert.Proof.Mm.Up

end
-- ==== Proof.Mm.Down.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Mm.Base
public import Idealize.ShloMosaic.Lib.Quiescent
public import Idealize.ShloMosaic.Lib.Pipeline.ValueKit.Acc

/-! The second half of the feed-forward network: the product summed over tiles of the contracted axis. -/

@[expose] public section

noncomputable section

open Idealize.ShloMosaic
open Idealize.ShloMosaic.TcCoe Idealize.SL.Sem Idealize.ShloMosaic.ValueIdx
open Idealize.ShloMosaic.Pipeline (Dat)

namespace Cert.Proof.Mm.Down

open Cert.Kernel3Ideal Cert.Kernel3Ideal.Gen

variable (m : (ℓ : Loc nD τ sig) → Buf (Elt Ideal) ℓ) (ρ : Dev nD → PrngReg)

/-- What the result is shown to hold. -/
def G (c : Dev nD) : Vec Ideal S8192x4096 .f32 := fun i =>
  dot (M := 8192) (K := 16384) (N := 4096) (m ((c : Thread nD τ).loc main_arg0)) (m ((c : Thread nD τ).loc main_arg1)) (i 0) (i 1)

/-- The term of a product at position `K` of the contracted axis. -/
def at_ (x : S8192x16384.Idx → EReal) (w : S16384x4096.Idx → EReal) (R C K : ℕ) : EReal :=
  if h : R < 8192 ∧ C < 4096 ∧ K < 16384 then x (ix2 ⟨R, h.1⟩ ⟨K, h.2.2⟩) * w (ix2 ⟨K, h.2.2⟩ ⟨C, h.2.1⟩) else 0

/-- All the terms together are the product. -/
theorem sum_at (x : S8192x16384.Idx → EReal) (w : S16384x4096.Idx → EReal) (R : Fin 8192) (C : Fin 4096) :
    ∑ K ∈ Finset.range 16384, at_ x w R.val C.val K = dot (M := 8192) (K := 16384) (N := 4096) x w R C :=
  (Finset.sum_range _).trans (Finset.sum_congr rfl fun k _ => dif_pos ⟨R.isLt, C.isLt, k.isLt⟩)

/-- That term of the two operands. -/
def term (c : Dev nD) (R C K : ℕ) : EReal := at_ (m ((c : Thread nD τ).loc main_arg0)) (m ((c : Thread nD τ).loc main_arg1)) R C K

theorem pay1_apply (x : Vec Ideal S2048x1024 .bf16) (w : Vec Ideal S1024x1024 .f32) (r : Fin 2048) (q : Fin 1024) :
    k0_pay1 (F := Ideal) x w (ix2 r q) = dot (M := 2048) (K := 1024) (N := 1024) x w r q :=
  matmul_zero (φ₁ := .bf16) none x (truncf (F := Ideal) .bf16 w bitsLt_bf16_f32) r q

theorem pay2_apply (o : Vec Ideal S2048x1024 .f32) (x : Vec Ideal S2048x1024 .bf16) (w : Vec Ideal S1024x1024 .f32) (r : Fin 2048) (q : Fin 1024) :
    k0_pay2 (F := Ideal) o x w (ix2 r q) = o (ix2 r q) + dot (M := 2048) (K := 1024) (N := 1024) x w r q := by
  have h := matmul_zero (φ₁ := .bf16) none x (truncf (F := Ideal) .bf16 w bitsLt_bf16_f32) r q
  show shapeCast S2048x1024 o shapeCasts_S2048x1024_S2048x1024 (ix2 r q) + FloatOps.matmul (DotDims.plain 2048 1024 1024) none x (truncf (F := Ideal) .bf16 w bitsLt_bf16_f32) (constant ⟨2, ![2048, 1024]⟩ .f32 0x00000000#32) (ix2 r q) = _
  rw [h, shapeCast_self]; rfl

/-- The blocks in the order of the grid. -/
theorem place : ∀ t : Fin cfg0.N, (win0_0.index t 0 = t.val / 64 ∧ win0_0.index t 1 = t.val % 16) ∧ (win0_1.index t 0 = t.val % 16 ∧ win0_1.index t 1 = t.val / 16 % 4) ∧ win0_2.index t 0 = t.val / 64 ∧ win0_2.index t 1 = t.val / 16 % 4 :=
  (by decide +kernel : ∀ t : Fin grid0.N, (win0_0.index t 0 = t.val / 64 ∧ win0_0.index t 1 = t.val % 16) ∧ (win0_1.index t 0 = t.val % 16 ∧ win0_1.index t 1 = t.val / 16 % 4) ∧ win0_2.index t 0 = t.val / 64 ∧ win0_2.index t 1 = t.val / 16 % 4)

/-- What one tile adds. -/
theorem tile (c : Dev nD) (t : Fin cfg0.N) (r : Fin 2048) (q : Fin 1024) :
    dot (M := 2048) (K := 1024) (N := 1024) (iblk m c 0 t) (iblk m c 1 t) r q
      = ∑ k ∈ Finset.range 1024, term m c (t.val / 64 * 2048 + r.val) (t.val / 16 % 4 * 1024 + q.val) (t.val % 16 * 1024 + k) := by
  rw [Finset.sum_range]
  have hN : t.val < 256 := lt_of_lt_of_eq t.isLt (show cfg0.N = 256 from N_0)
  refine Finset.sum_congr rfl fun k _ => ?_
  obtain ⟨⟨a0, a1⟩, ⟨b0, b1⟩, -⟩ := place t
  unfold term at_
  rw [dif_pos ⟨by omega, by omega, by omega⟩]
  refine congrArg₂ (· * ·) ?_ ?_
  · show m ((c : Thread nD τ).loc main_arg0) ((win0_0.blk t).view.emb (ix2 r k)) = _
    refine congrArg (m ((c : Thread nD τ).loc main_arg0)) (funext fun a => Fin.ext ?_)
    match a with
    | ⟨0, _⟩ => show win0_0.index t 0 * 2048 + 1 * r.val = t.val / 64 * 2048 + r.val; rw [a0]; omega
    | ⟨1, _⟩ => show win0_0.index t 1 * 1024 + 1 * k.val = t.val % 16 * 1024 + k.val; rw [a1]; omega
  · show m ((c : Thread nD τ).loc main_arg1) ((win0_1.blk t).view.emb (ix2 k q)) = _
    refine congrArg (m ((c : Thread nD τ).loc main_arg1)) (funext fun a => Fin.ext ?_)
    match a with
    | ⟨0, _⟩ => show win0_1.index t 0 * 1024 + 1 * k.val = t.val % 16 * 1024 + k.val; rw [b0]; omega
    | ⟨1, _⟩ => show win0_1.index t 1 * 1024 + 1 * q.val = t.val / 16 % 4 * 1024 + q.val; rw [b1]; omega

theorem first (c : Dev nD) (t : Fin cfg0.N) (h0 : t.val % 16 = 0) :
    outsAt0 m c t.val t.isLt = k0_pay1 (F := Ideal) (iblk m c 0 t) (iblk m c 1 t) := by
  rw [outsAt0_A m c t h0 (by omega)]
  frame_out

theorem next (c : Dev nD) (t : Fin cfg0.N) (h0 : ¬t.val % 16 = 0) :
    outsAt0 m c t.val t.isLt = k0_pay2 (F := Ideal) (outsAt0 m c (t.val - 1) (Nat.lt_of_le_of_lt (Nat.sub_le _ _) t.isLt)) (iblk m c 0 t) (iblk m c 1 t) := by
  rw [outsAt0_B m c t h0 (by omega)]
  frame_out

/-- After a point the result's buffer holds the sum over the tiles so far. -/
theorem sofar (c : Dev nD) (r : Fin 2048) (q : Fin 1024) : ∀ (n : ℕ) (hn : n < cfg0.N),
    outsAt0 m c n hn (ix2 r q) = ∑ K ∈ Finset.range (n % 16 * 1024 + 1024), term m c (n / 64 * 2048 + r.val) (n / 16 % 4 * 1024 + q.val) K := by
  intro n
  induction n using Nat.strong_induction_on with
  | _ n ih =>
    intro hn
    rw [Finset.sum_range_add]
    have ht := tile m c ⟨n, hn⟩ r q
    by_cases h0 : n % 16 = 0
    · rw [show outsAt0 m c n hn = _ from first m c ⟨n, hn⟩ h0, pay1_apply]
      refine ht.trans ?_
      rw [h0, Nat.zero_mul, Finset.range_zero, Finset.sum_empty, zero_add]
    · rw [show outsAt0 m c n hn = _ from next m c ⟨n, hn⟩ h0, pay2_apply]
      refine congrArg₂ (· + ·) ?_ ht
      refine (ih (n - 1) (by omega) _).trans ?_
      rw [show (n - 1) / 64 = n / 64 by omega, show (n - 1) / 16 % 4 = n / 16 % 4 by omega, show (n - 1) % 16 * 1024 + 1024 = n % 16 * 1024 by omega]

theorem flushed_eq (c : Dev nD) (t : Fin cfg0.N) (hf : t.val % 16 = 15) :
    (dats m 0 c).flushed 2 t = (win0_2.blk t).view.read (Elt Ideal) (G m c) := by
  rw [Value.flushed2]
  funext y
  obtain ⟨r, q, rfl⟩ : ∃ (r : Fin 2048) (q : Fin 1024), y = ix2 r q := ⟨y 0, y 1, eq_ix2 y⟩
  have hN : t.val < 256 := lt_of_lt_of_eq t.isLt (show cfg0.N = 256 from N_0)
  have h0 : t.val / 64 * 2048 + r.val < 8192 := by omega
  have h1 : t.val / 16 % 4 * 1024 + q.val < 4096 := by omega
  have hr : ∀ g : Vec Ideal S8192x4096 .f32, (win0_2.blk t).view.read (Elt Ideal) g (ix2 r q) = g (ix2 ⟨_, h0⟩ ⟨_, h1⟩) := fun g => by
    obtain ⟨-, -, c0, c1⟩ := place t
    have hi : (win0_2.blk t).view.emb (ix2 r q) = ix2 ⟨_, h0⟩ ⟨_, h1⟩ := by
      funext a
      apply Fin.ext
      match a with
      | ⟨0, _⟩ => show win0_2.index t 0 * 2048 + 1 * r.val = t.val / 64 * 2048 + r.val; rw [c0]; omega
      | ⟨1, _⟩ => show win0_2.index t 1 * 1024 + 1 * q.val = t.val / 16 % 4 * 1024 + q.val; rw [c1]; omega
    exact congrArg g hi
  have e : t.val % 16 * 1024 + 1024 = 16384 := by omega
  have hs := (sofar m c r q t.val t.isLt).trans
    (congrArg (fun n => ∑ K ∈ Finset.range n, term m c (t.val / 64 * 2048 + r.val) (t.val / 16 % 4 * 1024 + q.val) K) e)
  exact (hs.trans (sum_at _ _ ⟨_, h0⟩ ⟨_, h1⟩)).trans (hr (G m c)).symm

theorem mem_blk (t : Fin cfg0.N) (i : S8192x4096.Idx) :
    i ∈ ((cfg0.win 2).blk t).view.set ↔ (t.val / 64 * 2048 ≤ (i 0).val ∧ (i 0).val < t.val / 64 * 2048 + 2048)
      ∧ t.val / 16 % 4 * 1024 ≤ (i 1).val ∧ (i 1).val < t.val / 16 % 4 * 1024 + 1024 := by
  show i ∈ ((View.whole main_v0).slice (win0_2.rect t)).set ↔ _
  rw [View.set_slice_whole, Rect.mem_set_unit]
  obtain ⟨-, -, h0, h1⟩ := place t
  have e0 : (win0_2.index t 0 * 2048 ≤ (i 0).val ∧ (i 0).val < win0_2.index t 0 * 2048 + 2048) ↔ (t.val / 64 * 2048 ≤ (i 0).val ∧ (i 0).val < t.val / 64 * 2048 + 2048) := by rw [h0]
  have e1 : (win0_2.index t 1 * 1024 ≤ (i 1).val ∧ (i 1).val < win0_2.index t 1 * 1024 + 1024) ↔ (t.val / 16 % 4 * 1024 ≤ (i 1).val ∧ (i 1).val < t.val / 16 % 4 * 1024 + 1024) := by rw [h1]
  refine ⟨fun h => ⟨e0.mp (h 0), e1.mp (h 1)⟩, fun h a => ?_⟩
  match a with
  | ⟨0, _⟩ => exact e0.mpr h.1
  | ⟨1, _⟩ => exact e1.mpr h.2

theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 256 := N_0
  refine ⟨⟨(i 0).val / 2048 * 64 + (i 1).val / 1024 * 16 + 15, by omega⟩, (flush0_2 _).mpr ?_, (mem_blk _ i).mpr ?_⟩
  · dsimp only; omega
  · dsimp only; omega

theorem final (c : Dev nD) : (dats m 0 c).arrAt 2 cfg0.N = G m c :=
  (dats m 0 c).arrAt_eq_of_cover 2 (G m c) (fun t hf => flushed_eq m c t ((flush0_2 t).mp hf)) cover

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference3Ideal.Value.run (F := Ideal) m' ρ')
  rw [(hagree c).1, (hagree c).2]
  funext i
  obtain ⟨r, q, rfl⟩ : ∃ (r : Fin 8192) (q : Fin 4096), i = ix2 r q := ⟨i 0, i 1, eq_ix2 i⟩
  exact host_dot (φ₁ := .f32) (φ₂ := .f32) none _ _ r q

end Cert.Proof.Mm.Down

end
-- ==== Proof.Mm.Ple.lean ====
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Mm.Base
public import Idealize.ShloMosaic.Lib.Quiescent

/-! The gate of the per-layer embedding: the sigmoid of one product times another. -/

@[expose] public section

noncomputable section

open Idealize.ShloMosaic Idealize.ShloMosaic.TcCoe Idealize.SL.Sem Idealize.ShloMosaic.ValueIdx
open Idealize.ShloMosaic.Pipeline (Dat)

namespace Cert.Proof.Mm.Ple

open Cert.Kernel11Ideal Cert.Kernel11Ideal.Gen

variable (m : (ℓ : Loc nD τ sig) → Buf (Elt Ideal) ℓ) (ρ : Dev nD → PrngReg)

/-- The input and the weight. -/
abbrev X (c : Dev nD) : S8192x4096.Idx → EReal := m ((c : Thread nD τ).loc main_arg0)
abbrev W (c : Dev nD) : S4096x4096.Idx → EReal := m ((c : Thread nD τ).loc main_arg1)
/-- The embedding and its projection. -/
abbrev P (c : Dev nD) : S8192x256.Idx → EReal := m ((c : Thread nD τ).loc main_arg2)
abbrev U (c : Dev nD) : S256x4096.Idx → EReal := m ((c : Thread nD τ).loc main_arg3)

/-- What the result is shown to hold. -/
def G (c : Dev nD) : Vec Ideal S8192x4096 .f32 := fun i => sigm (dot (X m c) (W m c) (i 0) (i 1)) * dot (P m c) (U m c) (i 0) (i 1)

theorem pay_apply (x : Vec Ideal S2048x4096 .bf16) (w : Vec Ideal S4096x512 .f32) (p : Vec Ideal S2048x256 .bf16) (u : Vec Ideal S256x512 .f32) (r : Fin 2048) (q : Fin 512) :
    k0_pay1 (F := Ideal) x w p u (ix2 r q) = sigm (dot (M := 2048) (K := 4096) (N := 512) x w r q) * dot (M := 2048) (K := 256) (N := 512) p u r q :=
  congrArg₂ (· * ·) (congrArg sigm (matmul_zero (φ₁ := .bf16) none x (truncf (F := Ideal) .bf16 w bitsLt_bf16_f32) r q))
    (matmul_zero (φ₁ := .bf16) none p (truncf (F := Ideal) .bf16 u bitsLt_bf16_f32) r q)

/-- The blocks in the order of the grid. -/
theorem place : ∀ t : Fin cfg0.N, (win0_1.index t 0 = t.val / 8 ∧ win0_1.index t 1 = 0) ∧ (win0_0.index t 0 = 0 ∧ win0_0.index t 1 = t.val % 8) ∧ (win0_2.index t 0 = t.val / 8 ∧ win0_2.index t 1 = 0) ∧ (win0_3.index t 0 = 0 ∧ win0_3.index t 1 = t.val % 8) ∧ win0_4.index t 0 = t.val / 8 ∧ win0_4.index t 1 = t.val % 8 :=
  (by decide +kernel : ∀ t : Fin grid0.N, (win0_1.index t 0 = t.val / 8 ∧ win0_1.index t 1 = 0) ∧ (win0_0.index t 0 = 0 ∧ win0_0.index t 1 = t.val % 8) ∧ (win0_2.index t 0 = t.val / 8 ∧ win0_2.index t 1 = 0) ∧ (win0_3.index t 0 = 0 ∧ win0_3.index t 1 = t.val % 8) ∧ win0_4.index t 0 = t.val / 8 ∧ win0_4.index t 1 = t.val % 8)

theorem flushed_eq (c : Dev nD) (t : Fin cfg0.N) :
    (dats m 0 c).flushed 4 t = (win0_4.blk t).view.read (Elt Ideal) (G m c) := by
  rw [Value.flushed4]
  unfold out0_4
  rw [View.canon_unit_zero hz, View.ld_unit_zero hz, View.ld_unit_zero hz, View.ld_unit_zero hz, View.ld_unit_zero hz]
  funext y
  obtain ⟨r, q, rfl⟩ : ∃ (r : Fin 2048) (q : Fin 512), y = ix2 r q := ⟨y 0, y 1, eq_ix2 y⟩
  refine (pay_apply _ _ _ _ r q).trans ?_
  obtain ⟨⟨a0, a1⟩, ⟨b0, b1⟩, ⟨d0, d1⟩, ⟨e0, e1⟩, c0, c1⟩ := place t
  exact congrArg₂ (· * ·) (congrArg sigm (dot_blk (X := X m c) (W := W m c) (e := fun i => (win0_1.blk t).view.emb i) (f := fun i => (win0_0.blk t).view.emb i)
      (fun k => (by omega : win0_1.index t 0 * 2048 + 1 * r.val = win0_4.index t 0 * 2048 + 1 * r.val))
      (fun k => (by omega : win0_1.index t 1 * 4096 + 1 * k.val = k.val))
      (fun k => (by omega : win0_0.index t 0 * 4096 + 1 * k.val = k.val))
      (fun k => (by omega : win0_0.index t 1 * 512 + 1 * q.val = win0_4.index t 1 * 512 + 1 * q.val))))
    (dot_blk (X := P m c) (W := U m c) (e := fun i => (win0_2.blk t).view.emb i) (f := fun i => (win0_3.blk t).view.emb i)
      (fun k => (by omega : win0_2.index t 0 * 2048 + 1 * r.val = win0_4.index t 0 * 2048 + 1 * r.val))
      (fun k => (by omega : win0_2.index t 1 * 256 + 1 * k.val = k.val))
      (fun k => (by omega : win0_3.index t 0 * 256 + 1 * k.val = k.val))
      (fun k => (by omega : win0_3.index t 1 * 512 + 1 * q.val = win0_4.index t 1 * 512 + 1 * q.val)))

theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 32 := N_0
  obtain ⟨t, ht⟩ : ∃ t : Fin cfg0.N, t.val = (i 0).val / 2048 * 8 + (i 1).val / 512 := ⟨⟨_, by omega⟩, rfl⟩
  obtain ⟨-, -, -, -, c0, c1⟩ := place t
  refine ⟨t, flush0_4 t, ?_⟩
  show i ∈ ((View.whole main_v0).slice (win0_4.rect t)).set
  rw [View.set_slice_whole, Rect.mem_set_unit]
  intro a
  match a with
  | ⟨0, _⟩ => show win0_4.index t 0 * 2048 ≤ (i 0).val ∧ (i 0).val < win0_4.index t 0 * 2048 + 2048; omega
  | ⟨1, _⟩ => show win0_4.index t 1 * 512 ≤ (i 1).val ∧ (i 1).val < win0_4.index t 1 * 512 + 512; omega

theorem final (c : Dev nD) : (dats m 0 c).arrAt 4 cfg0.N = G m c :=
  (dats m 0 c).arrAt_eq_of_cover 4 (G m c) (fun t _ => flushed_eq m c t) cover

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference11Ideal.Value.run (F := Ideal) m' ρ')
  rw [(hagree c).1, (hagree c).2.1, (hagree c).2.2.1, (hagree c).2.2.2]
  funext i
  obtain ⟨r, q, rfl⟩ : ∃ (r : Fin 8192) (q : Fin 4096), i = ix2 r q := ⟨i 0, i 1, eq_ix2 i⟩
  exact congrArg₂ (· * ·) ((congrArg hsigm (host_dot (φ₁ := .f32) (φ₂ := .f32) none (X m c) (W m c) r q)).trans (sigm_eq _).symm)
    (host_dot (φ₁ := .f32) (φ₂ := .f32) none (P m c) (U m c) r q)

end Cert.Proof.Mm.Ple

end
-- ==== Proof.Mm.Mix.lean ====
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Mm.Base
public import Idealize.ShloMosaic.Lib.Quiescent

/-! The output projection. -/

@[expose] public section

noncomputable section

open Idealize.ShloMosaic Idealize.ShloMosaic.TcCoe Idealize.SL.Sem Idealize.ShloMosaic.ValueIdx
open Idealize.ShloMosaic.Pipeline (Dat)

namespace Cert.Proof.Mm.Mix

open Cert.Kernel10Ideal Cert.Kernel10Ideal.Gen

variable (m : (ℓ : Loc nD τ sig) → Buf (Elt Ideal) ℓ) (ρ : Dev nD → PrngReg)

/-- The input and the weight. -/
abbrev X (c : Dev nD) : S8192x4096.Idx → EReal := m ((c : Thread nD τ).loc main_arg0)
abbrev W (c : Dev nD) : S4096x4096.Idx → EReal := m ((c : Thread nD τ).loc main_arg1)

/-- What the result is shown to hold. -/
def G (c : Dev nD) : Vec Ideal S8192x4096 .f32 := fun i => dot (X m c) (W m c) (i 0) (i 1)

theorem pay_apply (x : Vec Ideal S2048x4096 .bf16) (w : Vec Ideal S4096x512 .f32) (r : Fin 2048) (q : Fin 512) :
    k0_pay1 (F := Ideal) x w (ix2 r q) = dot (M := 2048) (K := 4096) (N := 512) x w r q :=
  matmul_zero (φ₁ := .bf16) none x (truncf (F := Ideal) .bf16 w bitsLt_bf16_f32) r q

/-- The blocks in the order of the grid. -/
theorem place : ∀ t : Fin cfg0.N, (win0_0.index t 0 = t.val / 8 ∧ win0_0.index t 1 = 0) ∧ (win0_1.index t 0 = 0 ∧ win0_1.index t 1 = t.val % 8) ∧ win0_2.index t 0 = t.val / 8 ∧ win0_2.index t 1 = t.val % 8 :=
  (by decide +kernel : ∀ t : Fin grid0.N, (win0_0.index t 0 = t.val / 8 ∧ win0_0.index t 1 = 0) ∧ (win0_1.index t 0 = 0 ∧ win0_1.index t 1 = t.val % 8) ∧ win0_2.index t 0 = t.val / 8 ∧ win0_2.index t 1 = t.val % 8)

theorem flushed_eq (c : Dev nD) (t : Fin cfg0.N) :
    (dats m 0 c).flushed 2 t = (win0_2.blk t).view.read (Elt Ideal) (G m c) := by
  rw [Value.flushed2]
  unfold out0_2
  rw [View.canon_unit_zero hz, View.ld_unit_zero hz, View.ld_unit_zero hz]
  funext y
  obtain ⟨r, q, rfl⟩ : ∃ (r : Fin 2048) (q : Fin 512), y = ix2 r q := ⟨y 0, y 1, eq_ix2 y⟩
  refine (pay_apply _ _ r q).trans ?_
  obtain ⟨⟨a0, a1⟩, ⟨b0, b1⟩, c0, c1⟩ := place t
  refine dot_blk (X := X m c) (W := W m c) (e := fun i => (win0_0.blk t).view.emb i) (f := fun i => (win0_1.blk t).view.emb i) (fun k => ?_) (fun k => ?_) (fun k => ?_) (fun k => ?_)
  · show win0_0.index t 0 * 2048 + 1 * r.val = win0_2.index t 0 * 2048 + 1 * r.val; omega
  · show win0_0.index t 1 * 4096 + 1 * k.val = k.val; omega
  · show win0_1.index t 0 * 4096 + 1 * k.val = k.val; omega
  · show win0_1.index t 1 * 512 + 1 * q.val = win0_2.index t 1 * 512 + 1 * q.val; omega

theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 32 := N_0
  obtain ⟨t, ht⟩ : ∃ t : Fin cfg0.N, t.val = (i 0).val / 2048 * 8 + (i 1).val / 512 := ⟨⟨_, by omega⟩, rfl⟩
  obtain ⟨-, -, c0, c1⟩ := place t
  refine ⟨t, flush0_2 t, ?_⟩
  show i ∈ ((View.whole main_v0).slice (win0_2.rect t)).set
  rw [View.set_slice_whole, Rect.mem_set_unit]
  intro a
  match a with
  | ⟨0, _⟩ => show win0_2.index t 0 * 2048 ≤ (i 0).val ∧ (i 0).val < win0_2.index t 0 * 2048 + 2048; omega
  | ⟨1, _⟩ => show win0_2.index t 1 * 512 ≤ (i 1).val ∧ (i 1).val < win0_2.index t 1 * 512 + 512; omega

theorem final (c : Dev nD) : (dats m 0 c).arrAt 2 cfg0.N = G m c :=
  (dats m 0 c).arrAt_eq_of_cover 2 (G m c) (fun t _ => flushed_eq m c t) cover

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference10Ideal.Value.run (F := Ideal) m' ρ')
  rw [(hagree c).1, (hagree c).2]
  funext i
  obtain ⟨r, q, rfl⟩ : ∃ (r : Fin 8192) (q : Fin 4096), i = ix2 r q := ⟨i 0, i 1, eq_ix2 i⟩
  exact host_dot (φ₁ := .f32) (φ₂ := .f32) none (X m c) (W m c) r q

end Cert.Proof.Mm.Mix

end
-- ==== Proof.Mm.Merge.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Mm.Base
public import Idealize.ShloMosaic.Lib.Quiescent

/-! The gated sum of the two branches. -/

@[expose] public section

noncomputable section

open Idealize.ShloMosaic Idealize.ShloMosaic.TcCoe Idealize.SL.Sem Idealize.ShloMosaic.ValueIdx
open Idealize.ShloMosaic.Pipeline (Dat)

namespace Cert.Proof.Mm.Merge

open Cert.Kernel9Ideal Cert.Kernel9Ideal.Gen

variable (m : (ℓ : Loc nD τ sig) → Buf (Elt Ideal) ℓ) (ρ : Dev nD → PrngReg)

/-- The input and the weight. -/
abbrev X (c : Dev nD) : S8192x4096.Idx → EReal := m ((c : Thread nD τ).loc main_arg0)
abbrev W (c : Dev nD) : S4096x4096.Idx → EReal := m ((c : Thread nD τ).loc main_arg1)
/-- The other branch and the gates. -/
abbrev P (c : Dev nD) : S8192x4096.Idx → EReal := m ((c : Thread nD τ).loc main_arg2)
abbrev U (c : Dev nD) : S4096x4096.Idx → EReal := m ((c : Thread nD τ).loc main_arg3)
abbrev Y (c : Dev nD) : S8192x8192.Idx → EReal := m ((c : Thread nD τ).loc main_arg4)

/-- What the result is shown to hold. -/
def G (c : Dev nD) : Vec Ideal S8192x4096 .bf16 := fun i =>
  Y m c (ix2 (i 0) (col (n := 4096) 0 (by decide) (i 1))) * dot (X m c) (W m c) (i 0) (i 1) + Y m c (ix2 (i 0) (col (n := 4096) 4096 (by decide) (i 1))) * dot (P m c) (U m c) (i 0) (i 1)

theorem pay_apply (x : Vec Ideal S1024x4096 .bf16) (w : Vec Ideal S4096x256 .f32) (p : Vec Ideal S1024x4096 .bf16) (u : Vec Ideal S4096x256 .f32)
    (g h : Vec Ideal S1024x256 .f32) (r : Fin 1024) (q : Fin 256) :
    k0_pay1 (F := Ideal) x w p u g h (ix2 r q) = g (ix2 r q) * dot (M := 1024) (K := 4096) (N := 256) x w r q + h (ix2 r q) * dot (M := 1024) (K := 4096) (N := 256) p u r q :=
  congrArg₂ (fun a b : EReal => (g (ix2 r q) : EReal) * a + (h (ix2 r q) : EReal) * b) (matmul_zero (φ₁ := .bf16) none x (truncf (F := Ideal) .bf16 w bitsLt_bf16_f32) r q)
    (matmul_zero (φ₁ := .bf16) none p (truncf (F := Ideal) .bf16 u bitsLt_bf16_f32) r q)

/-- The blocks in the order of the grid. -/
theorem place : ∀ t : Fin cfg0.N, (win0_1.index t 0 = t.val / 16 ∧ win0_1.index t 1 = 0) ∧ (win0_0.index t 0 = 0 ∧ win0_0.index t 1 = t.val % 16) ∧ (win0_2.index t 0 = t.val / 16 ∧ win0_2.index t 1 = 0) ∧ (win0_3.index t 0 = 0 ∧ win0_3.index t 1 = t.val % 16)
    ∧ (win0_4.index t 0 = t.val / 16 ∧ win0_4.index t 1 = t.val % 16) ∧ (win0_5.index t 0 = t.val / 16 ∧ win0_5.index t 1 = t.val % 16 + 16) ∧ win0_6.index t 0 = t.val / 16 ∧ win0_6.index t 1 = t.val % 16 :=
  (by decide +kernel : ∀ t : Fin grid0.N, (win0_1.index t 0 = t.val / 16 ∧ win0_1.index t 1 = 0) ∧ (win0_0.index t 0 = 0 ∧ win0_0.index t 1 = t.val % 16) ∧ (win0_2.index t 0 = t.val / 16 ∧ win0_2.index t 1 = 0) ∧ (win0_3.index t 0 = 0 ∧ win0_3.index t 1 = t.val % 16)
    ∧ (win0_4.index t 0 = t.val / 16 ∧ win0_4.index t 1 = t.val % 16) ∧ (win0_5.index t 0 = t.val / 16 ∧ win0_5.index t 1 = t.val % 16 + 16) ∧ win0_6.index t 0 = t.val / 16 ∧ win0_6.index t 1 = t.val % 16)

theorem flushed_eq (c : Dev nD) (t : Fin cfg0.N) :
    (dats m 0 c).flushed 6 t = (win0_6.blk t).view.read (Elt Ideal) (G m c) := by
  rw [Value.flushed6]
  unfold out0_6
  rw [View.canon_unit_zero hz, View.ld_unit_zero hz, View.ld_unit_zero hz, View.ld_unit_zero hz, View.ld_unit_zero hz, View.ld_unit_zero hz, View.ld_unit_zero hz]
  funext y
  obtain ⟨r, q, rfl⟩ : ∃ (r : Fin 1024) (q : Fin 256), y = ix2 r q := ⟨y 0, y 1, eq_ix2 y⟩
  refine (pay_apply _ _ _ _ _ _ r q).trans ?_
  obtain ⟨⟨a0, a1⟩, ⟨b0, b1⟩, ⟨d0, d1⟩, ⟨e0, e1⟩, ⟨f0, f1⟩, ⟨g0, g1⟩, c0, c1⟩ := place t
  exact congrArg₂ (· + ·) (congrArg₂ (· * ·) (congrArg (Y m c) (ix2_of (i := (win0_4.blk t).view.emb (ix2 r q))
      (by omega : win0_4.index t 0 * 1024 + 1 * r.val = win0_6.index t 0 * 1024 + 1 * r.val) (by omega : win0_4.index t 1 * 256 + 1 * q.val = 0 + (win0_6.index t 1 * 256 + 1 * q.val))))
    (dot_blk (X := X m c) (W := W m c) (e := fun i => (win0_1.blk t).view.emb i) (f := fun i => (win0_0.blk t).view.emb i)
      (fun k => (by omega : win0_1.index t 0 * 1024 + 1 * r.val = win0_6.index t 0 * 1024 + 1 * r.val))
      (fun k => (by omega : win0_1.index t 1 * 4096 + 1 * k.val = k.val))
      (fun k => (by omega : win0_0.index t 0 * 4096 + 1 * k.val = k.val))
      (fun k => (by omega : win0_0.index t 1 * 256 + 1 * q.val = win0_6.index t 1 * 256 + 1 * q.val))))
    (congrArg₂ (· * ·) (congrArg (Y m c) (ix2_of (i := (win0_5.blk t).view.emb (ix2 r q))
      (by omega : win0_5.index t 0 * 1024 + 1 * r.val = win0_6.index t 0 * 1024 + 1 * r.val) (by omega : win0_5.index t 1 * 256 + 1 * q.val = 4096 + (win0_6.index t 1 * 256 + 1 * q.val))))
    (dot_blk (X := P m c) (W := U m c) (e := fun i => (win0_2.blk t).view.emb i) (f := fun i => (win0_3.blk t).view.emb i)
      (fun k => (by omega : win0_2.index t 0 * 1024 + 1 * r.val = win0_6.index t 0 * 1024 + 1 * r.val))
      (fun k => (by omega : win0_2.index t 1 * 4096 + 1 * k.val = k.val))
      (fun k => (by omega : win0_3.index t 0 * 4096 + 1 * k.val = k.val))
      (fun k => (by omega : win0_3.index t 1 * 256 + 1 * q.val = win0_6.index t 1 * 256 + 1 * q.val))))

theorem cover (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 128 := N_0
  obtain ⟨t, ht⟩ : ∃ t : Fin cfg0.N, t.val = (i 0).val / 1024 * 16 + (i 1).val / 256 := ⟨⟨_, by omega⟩, rfl⟩
  obtain ⟨-, -, -, -, -, -, c0, c1⟩ := place t
  refine ⟨t, flush0_6 t, ?_⟩
  show i ∈ ((View.whole main_v0).slice (win0_6.rect t)).set
  rw [View.set_slice_whole, Rect.mem_set_unit]
  intro a
  match a with
  | ⟨0, _⟩ => show win0_6.index t 0 * 1024 ≤ (i 0).val ∧ (i 0).val < win0_6.index t 0 * 1024 + 1024; omega
  | ⟨1, _⟩ => show win0_6.index t 1 * 256 ≤ (i 1).val ∧ (i 1).val < win0_6.index t 1 * 256 + 256; omega

theorem final (c : Dev nD) : (dats m 0 c).arrAt 6 cfg0.N = G m c :=
  (dats m 0 c).arrAt_eq_of_cover 6 (G m c) (fun t _ => flushed_eq m c t) cover

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference9Ideal.Value.run (F := Ideal) m' ρ')
  rw [(hagree c).1, (hagree c).2.1, (hagree c).2.2.1, (hagree c).2.2.2.1, (hagree c).2.2.2.2]
  funext i
  obtain ⟨r, q, rfl⟩ : ∃ (r : Fin 8192) (q : Fin 4096), i = ix2 r q := ⟨i 0, i 1, eq_ix2 i⟩
  exact congrArg₂ (· + ·) (congrArg₂ (· * ·) (slice2_axis1_apply (m := 4096) 0 (Y m c) (by decide) r q (col 0 (by decide) q) rfl) (host_dot (φ₁ := .f32) (φ₂ := .f32) none (X m c) (W m c) r q))
    (congrArg₂ (· * ·) (slice2_axis1_apply (m := 4096) 4096 (Y m c) (by decide) r q (col 4096 (by decide) q) rfl) (host_dot (φ₁ := .f32) (φ₂ := .f32) none (P m c) (U m c) r q))

end Cert.Proof.Mm.Merge

end
-- ==== Proof.Mm.Gates.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Mm.Base
public import Idealize.ShloMosaic.Lib.Quiescent

/-! The gates of the two branches: the sigmoid of the last columns of the input projection. -/

@[expose] public section

noncomputable section

open Idealize.ShloMosaic Idealize.ShloMosaic.TcCoe Idealize.SL.Sem Idealize.ShloMosaic.ValueIdx
open Idealize.ShloMosaic.Pipeline (Dat)

namespace Cert.Proof.Mm.Gates

open Cert.Kernel8Ideal Cert.Kernel8Ideal.Gen

variable (m : (ℓ : Loc nD τ sig) → Buf (Elt Ideal) ℓ) (ρ : Dev nD → PrngReg)

/-- The input and the weight. -/
abbrev X (c : Dev nD) : S8192x4096.Idx → EReal := m ((c : Thread nD τ).loc main_arg0)
abbrev W (c : Dev nD) : S4096x28672.Idx → EReal := m ((c : Thread nD τ).loc main_arg1)

/-- What the result is shown to hold. -/
def G (c : Dev nD) : Vec Ideal S8192x8192 .f32 := fun i => sigm (dot (X m c) (W m c) (i 0) (col (n := 8192) (N := 28672) 20480 (by decide) (i 1)))

theorem pay_apply (x : Vec Ideal S2048x4096 .bf16) (w : Vec Ideal S4096x512 .f32) (r : Fin 2048) (q : Fin 512) :
    k0_pay1 (F := Ideal) x w (ix2 r q) = sigm (dot (M := 2048) (K := 4096) (N := 512) x w r q) :=
  congrArg sigm (matmul_zero (φ₁ := .bf16) none x (truncf (F := Ideal) .bf16 w bitsLt_bf16_f32) r q)

/-- The blocks in the order of the grid. -/
theorem place : ∀ t : Fin cfg0.N, (win0_0.index t 0 = t.val / 16 ∧ win0_0.index t 1 = 0) ∧ (win0_1.index t 0 = 0 ∧ win0_1.index t 1 = t.val % 16 + 40) ∧ win0_2.index t 0 = t.val / 16 ∧ win0_2.index t 1 = t.val % 16 :=
  (by decide +kernel : ∀ t : Fin grid0.N, (win0_0.index t 0 = t.val / 16 ∧ win0_0.index t 1 = 0) ∧ (win0_1.index t 0 = 0 ∧ win0_1.index t 1 = t.val % 16 + 40) ∧ win0_2.index t 0 = t.val / 16 ∧ win0_2.index t 1 = t.val % 16)

theorem flushed_eq (c : Dev nD) (t : Fin cfg0.N) :
    (dats m 0 c).flushed 2 t = (win0_2.blk t).view.read (Elt Ideal) (G m c) := by
  rw [Value.flushed2]
  unfold out0_2
  rw [View.canon_unit_zero hz, View.ld_unit_zero hz, View.ld_unit_zero hz]
  funext y
  obtain ⟨r, q, rfl⟩ : ∃ (r : Fin 2048) (q : Fin 512), y = ix2 r q := ⟨y 0, y 1, eq_ix2 y⟩
  refine (pay_apply _ _ r q).trans ?_
  obtain ⟨⟨a0, a1⟩, ⟨b0, b1⟩, c0, c1⟩ := place t
  refine congrArg sigm (dot_blk (X := X m c) (W := W m c) (e := fun i => (win0_0.blk t).view.emb i) (f := fun i => (win0_1.blk t).view.emb i) (fun k => ?_) (fun k => ?_) (fun k => ?_) (fun k => ?_))
  · show win0_0.index t 0 * 2048 + 1 * r.val = win0_2.index t 0 * 2048 + 1 * r.val; omega
  · show win0_0.index t 1 * 4096 + 1 * k.val = k.val; omega
  · show win0_1.index t 0 * 4096 + 1 * k.val = k.val; omega
  · show win0_1.index t 1 * 512 + 1 * q.val = 20480 + (win0_2.index t 1 * 512 + 1 * q.val); omega

theorem cover (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  have hN : cfg0.N = 64 := N_0
  obtain ⟨t, ht⟩ : ∃ t : Fin cfg0.N, t.val = (i 0).val / 2048 * 16 + (i 1).val / 512 := ⟨⟨_, by omega⟩, rfl⟩
  obtain ⟨-, -, c0, c1⟩ := place t
  refine ⟨t, flush0_2 t, ?_⟩
  show i ∈ ((View.whole main_v0).slice (win0_2.rect t)).set
  rw [View.set_slice_whole, Rect.mem_set_unit]
  intro a
  match a with
  | ⟨0, _⟩ => show win0_2.index t 0 * 2048 ≤ (i 0).val ∧ (i 0).val < win0_2.index t 0 * 2048 + 2048; omega
  | ⟨1, _⟩ => show win0_2.index t 1 * 512 ≤ (i 1).val ∧ (i 1).val < win0_2.index t 1 * 512 + 512; omega

theorem final (c : Dev nD) : (dats m 0 c).arrAt 2 cfg0.N = G m c :=
  (dats m 0 c).arrAt_eq_of_cover 2 (G m c) (fun t _ => flushed_eq m c t) cover

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference8Ideal.Value.run (F := Ideal) m' ρ')
  rw [(hagree c).1, (hagree c).2]
  funext i
  obtain ⟨r, q, rfl⟩ : ∃ (r : Fin 8192) (q : Fin 8192), i = ix2 r q := ⟨i 0, i 1, eq_ix2 i⟩
  exact (congrArg hsigm (host_cols (n := 8192) (N := 28672) (φ₁ := .f32) (φ₂ := .f32) none 20480 (by decide) (X m c) (W m c) (by decide) r q)).trans (sigm_eq _).symm

end Cert.Proof.Mm.Gates

end
-- ==== Proof.Mm.Glu.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Mm.Base
public import Idealize.ShloMosaic.Lib.Quiescent

/-! The input of the convolution: one half of its columns of the input projection times the sigmoid of the other. -/

@[expose] public section

noncomputable section

open Idealize.ShloMosaic Idealize.ShloMosaic.TcCoe Idealize.SL.Sem Idealize.ShloMosaic.ValueIdx
open Idealize.ShloMosaic.Pipeline (Dat)

namespace Cert.Proof.Mm.Glu

open Cert.Kernel7Ideal Cert.Kernel7Ideal.Gen

variable (m : (ℓ : Loc nD τ sig) → Buf (Elt Ideal) ℓ) (ρ : Dev nD → PrngReg)

/-- The input and the weight. -/
abbrev X (c : Dev nD) : S8192x4096.Idx → EReal := m ((c : Thread nD τ).loc main_arg0)
abbrev W (c : Dev nD) : S4096x28672.Idx → EReal := m ((c : Thread nD τ).loc main_arg1)

/-- What the result is shown to hold. -/
def G (c : Dev nD) : Vec Ideal S8192x4096 .f32 := fun i =>
  dot (X m c) (W m c) (i 0) (col (n := 8192) (N := 28672) 12288 (by decide) (col (n := 4096) 0 (by decide) (i 1)))
    * sigm (dot (X m c) (W m c) (i 0) (col (n := 8192) (N := 28672) 12288 (by decide) (col (n := 4096) 4096 (by decide) (i 1))))

theorem pay_apply (x : Vec Ideal S2048x4096 .bf16) (v w : Vec Ideal S4096x256 .f32) (r : Fin 2048) (q : Fin 256) :
    k0_pay1 (F := Ideal) x v x w (ix2 r q) = dot (M := 2048) (K := 4096) (N := 256) x v r q * sigm (dot (M := 2048) (K := 4096) (N := 256) x w r q) :=
  congrArg₂ (· * ·) (matmul_zero (φ₁ := .bf16) none x (truncf (F := Ideal) .bf16 v bitsLt_bf16_f32) r q)
    (congrArg sigm (matmul_zero (φ₁ := .bf16) none x (truncf (F := Ideal) .bf16 w bitsLt_bf16_f32) r q))

/-- The blocks in the order of the grid. -/
theorem place : ∀ t : Fin cfg0.N, (win0_0.index t 0 = t.val / 16 ∧ win0_0.index t 1 = 0) ∧ (win0_1.index t 0 = 0 ∧ win0_1.index t 1 = t.val % 16 + 48) ∧ (win0_2.index t 0 = 0 ∧ win0_2.index t 1 = t.val % 16 + 64) ∧ win0_3.index t 0 = t.val / 16 ∧ win0_3.index t 1 = t.val % 16 :=
  (by decide +kernel : ∀ t : Fin grid0.N, (win0_0.index t 0 = t.val / 16 ∧ win0_0.index t 1 = 0) ∧ (win0_1.index t 0 = 0 ∧ win0_1.index t 1 = t.val % 16 + 48) ∧ (win0_2.index t 0 = 0 ∧ win0_2.index t 1 = t.val % 16 + 64) ∧ win0_3.index t 0 = t.val / 16 ∧ win0_3.index t 1 = t.val % 16)

theorem flushed_eq (c : Dev nD) (t : Fin cfg0.N) :
    (dats m 0 c).flushed 3 t = (win0_3.blk t).view.read (Elt Ideal) (G m c) := by
  rw [Value.flushed3]
  unfold out0_3
  rw [View.canon_unit_zero hz, View.ld_unit_zero hz, View.ld_unit_zero hz, View.ld_unit_zero hz]
  funext y
  obtain ⟨r, q, rfl⟩ : ∃ (r : Fin 2048) (q : Fin 256), y = ix2 r q := ⟨y 0, y 1, eq_ix2 y⟩
  refine (pay_apply _ _ _ r q).trans ?_
  obtain ⟨⟨a0, a1⟩, ⟨b0, b1⟩, ⟨d0, d1⟩, c0, c1⟩ := place t
  exact congrArg₂ (· * ·) (dot_blk (X := X m c) (W := W m c) (e := fun i => (win0_0.blk t).view.emb i) (f := fun i => (win0_1.blk t).view.emb i)
      (fun k => (by omega : win0_0.index t 0 * 2048 + 1 * r.val = win0_3.index t 0 * 2048 + 1 * r.val))
      (fun k => (by omega : win0_0.index t 1 * 4096 + 1 * k.val = k.val))
      (fun k => (by omega : win0_1.index t 0 * 4096 + 1 * k.val = k.val))
      (fun k => (by omega : win0_1.index t 1 * 256 + 1 * q.val = 12288 + (0 + (win0_3.index t 1 * 256 + 1 * q.val)))))
    (congrArg sigm (dot_blk (X := X m c) (W := W m c) (e := fun i => (win0_0.blk t).view.emb i) (f := fun i => (win0_2.blk t).view.emb i)
      (fun k => (by omega : win0_0.index t 0 * 2048 + 1 * r.val = win0_3.index t 0 * 2048 + 1 * r.val))
      (fun k => (by omega : win0_0.index t 1 * 4096 + 1 * k.val = k.val))
      (fun k => (by omega : win0_2.index t 0 * 4096 + 1 * k.val = k.val))
      (fun k => (by omega : win0_2.index t 1 * 256 + 1 * q.val = 12288 + (4096 + (win0_3.index t 1 * 256 + 1 * q.val))))))

theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 64 := N_0
  obtain ⟨t, ht⟩ : ∃ t : Fin cfg0.N, t.val = (i 0).val / 2048 * 16 + (i 1).val / 256 := ⟨⟨_, by omega⟩, rfl⟩
  obtain ⟨-, -, -, c0, c1⟩ := place t
  refine ⟨t, flush0_3 t, ?_⟩
  show i ∈ ((View.whole main_v0).slice (win0_3.rect t)).set
  rw [View.set_slice_whole, Rect.mem_set_unit]
  intro a
  match a with
  | ⟨0, _⟩ => show win0_3.index t 0 * 2048 ≤ (i 0).val ∧ (i 0).val < win0_3.index t 0 * 2048 + 2048; omega
  | ⟨1, _⟩ => show win0_3.index t 1 * 256 ≤ (i 1).val ∧ (i 1).val < win0_3.index t 1 * 256 + 256; omega

theorem final (c : Dev nD) : (dats m 0 c).arrAt 3 cfg0.N = G m c :=
  (dats m 0 c).arrAt_eq_of_cover 3 (G m c) (fun t _ => flushed_eq m c t) cover

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference7Ideal.Value.run (F := Ideal) m' ρ')
  rw [(hagree c).1, (hagree c).2]
  funext i
  obtain ⟨r, q, rfl⟩ : ∃ (r : Fin 8192) (q : Fin 4096), i = ix2 r q := ⟨i 0, i 1, eq_ix2 i⟩
  exact congrArg₂ (· * ·) (host_cols2 (n := 8192) (N := 28672) (φ₁ := .f32) (φ₂ := .f32) none 12288 0 (by decide) (by decide) (X m c) (W m c) (by decide) (by decide) r q)
    ((congrArg hsigm (host_cols2 (n := 8192) (N := 28672) (φ₁ := .f32) (φ₂ := .f32) none 12288 4096 (by decide) (by decide) (X m c) (W m c) (by decide) (by decide) r q)).trans (sigm_eq _).symm)

end Cert.Proof.Mm.Glu

end
-- ==== Proof.Mm.V.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Mm.Base
public import Idealize.ShloMosaic.Lib.Quiescent

/-! The values, transposed: the columns of the input projection from 8192 on. -/

@[expose] public section

noncomputable section

open Idealize.ShloMosaic Idealize.ShloMosaic.TcCoe Idealize.SL.Sem Idealize.ShloMosaic.ValueIdx
open Idealize.ShloMosaic.Pipeline (Dat)

namespace Cert.Proof.Mm.V

open Cert.Kernel6Ideal Cert.Kernel6Ideal.Gen

variable (m : (ℓ : Loc nD τ sig) → Buf (Elt Ideal) ℓ) (ρ : Dev nD → PrngReg)

/-- The input and the weight. -/
abbrev X (c : Dev nD) : S8192x4096.Idx → EReal := m ((c : Thread nD τ).loc main_arg0)
abbrev W (c : Dev nD) : S4096x28672.Idx → EReal := m ((c : Thread nD τ).loc main_arg1)

/-- What the result is shown to hold. -/
def G (c : Dev nD) : Vec Ideal S4096x8192 .bf16 := fun i => dot (X m c) (W m c) (i 1) (col (n := 4096) (N := 28672) 8192 (by decide) (i 0))

theorem pay_apply (x : Vec Ideal S2048x4096 .bf16) (w : Vec Ideal S4096x512 .f32) (r : Fin 2048) (q : Fin 512) :
    k0_pay1 (F := Ideal) x w (ix2 q r) = dot (M := 2048) (K := 4096) (N := 512) x w r q :=
  (transpose_ix2_apply _ transposes_S2048x512_p1_0_S512x2048 q r).trans (matmul_zero (φ₁ := .bf16) none x (truncf (F := Ideal) .bf16 w bitsLt_bf16_f32) r q)

/-- The blocks in the order of the grid. -/
theorem place : ∀ t : Fin cfg0.N, (win0_0.index t 0 = t.val / 8 ∧ win0_0.index t 1 = 0) ∧ (win0_1.index t 0 = 0 ∧ win0_1.index t 1 = t.val % 8 + 16) ∧ win0_2.index t 0 = t.val % 8 ∧ win0_2.index t 1 = t.val / 8 :=
  (by decide +kernel : ∀ t : Fin grid0.N, (win0_0.index t 0 = t.val / 8 ∧ win0_0.index t 1 = 0) ∧ (win0_1.index t 0 = 0 ∧ win0_1.index t 1 = t.val % 8 + 16) ∧ win0_2.index t 0 = t.val % 8 ∧ win0_2.index t 1 = t.val / 8)

theorem flushed_eq (c : Dev nD) (t : Fin cfg0.N) :
    (dats m 0 c).flushed 2 t = (win0_2.blk t).view.read (Elt Ideal) (G m c) := by
  rw [Value.flushed2]
  unfold out0_2
  rw [View.canon_unit_zero hz, View.ld_unit_zero hz, View.ld_unit_zero hz]
  funext y
  obtain ⟨r, q, rfl⟩ : ∃ (r : Fin 2048) (q : Fin 512), y = ix2 q r := ⟨y 1, y 0, eq_ix2 y⟩
  refine (pay_apply _ _ r q).trans ?_
  obtain ⟨⟨a0, a1⟩, ⟨b0, b1⟩, c0, c1⟩ := place t
  refine dot_blk (X := X m c) (W := W m c) (e := fun i => (win0_0.blk t).view.emb i) (f := fun i => (win0_1.blk t).view.emb i) (fun k => ?_) (fun k => ?_) (fun k => ?_) (fun k => ?_)
  · show win0_0.index t 0 * 2048 + 1 * r.val = win0_2.index t 1 * 2048 + 1 * r.val; omega
  · show win0_0.index t 1 * 4096 + 1 * k.val = k.val; omega
  · show win0_1.index t 0 * 4096 + 1 * k.val = k.val; omega
  · show win0_1.index t 1 * 512 + 1 * q.val = 8192 + (win0_2.index t 0 * 512 + 1 * q.val); omega

theorem cover (i : S4096x8192.Idx) : ∃ t : Fin cfg0.N, (cfg0.win 2).flush t = true ∧ i ∈ ((cfg0.win 2).blk t).view.set := by
  have h0 : (i 0).val < 4096 := (i 0).isLt
  have h1 : (i 1).val < 8192 := (i 1).isLt
  have hN : cfg0.N = 32 := N_0
  obtain ⟨t, ht⟩ : ∃ t : Fin cfg0.N, t.val = (i 1).val / 2048 * 8 + (i 0).val / 512 := ⟨⟨_, by omega⟩, rfl⟩
  obtain ⟨-, -, c0, c1⟩ := place t
  refine ⟨t, flush0_2 t, ?_⟩
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512; omega
  | ⟨1, _⟩ => show win0_2.index t 1 * 2048 ≤ (i 1).val ∧ (i 1).val < win0_2.index t 1 * 2048 + 2048; omega

theorem final (c : Dev nD) : (dats m 0 c).arrAt 2 cfg0.N = G m c :=
  (dats m 0 c).arrAt_eq_of_cover 2 (G m c) (fun t _ => flushed_eq m c t) cover

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference6Ideal.Value.run (F := Ideal) m' ρ')
  rw [(hagree c).1, (hagree c).2]
  funext i
  obtain ⟨r, q, rfl⟩ : ∃ (r : Fin 8192) (q : Fin 4096), i = ix2 q r := ⟨i 1, i 0, eq_ix2 i⟩
  exact (transpose_ix2_apply _ _ q r).trans (host_cols (n := 4096) (N := 28672) (φ₁ := .f32) (φ₂ := .f32) none 8192 (by decide) (X m c) (W m c) (by decide) r q)

end Cert.Proof.Mm.V

end
-- ==== Proof.Mm.K.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Mm.Base
public import Idealize.ShloMosaic.Lib.Quiescent

/-! The keys: the columns of the input projection from 4096 on. -/

@[expose] public section

noncomputable section

open Idealize.ShloMosaic Idealize.ShloMosaic.TcCoe Idealize.SL.Sem Idealize.ShloMosaic.ValueIdx
open Idealize.ShloMosaic.Pipeline (Dat)

namespace Cert.Proof.Mm.K

open Cert.Kernel5Ideal Cert.Kernel5Ideal.Gen

variable (m : (ℓ : Loc nD τ sig) → Buf (Elt Ideal) ℓ) (ρ : Dev nD → PrngReg)

/-- The input and the weight. -/
abbrev X (c : Dev nD) : S8192x4096.Idx → EReal := m ((c : Thread nD τ).loc main_arg0)
abbrev W (c : Dev nD) : S4096x28672.Idx → EReal := m ((c : Thread nD τ).loc main_arg1)

/-- What the result is shown to hold. -/
def G (c : Dev nD) : Vec Ideal S8192x4096 .bf16 := fun i => dot (X m c) (W m c) (i 0) (col (n := 4096) (N := 28672) 4096 (by decide) (i 1))

theorem pay_apply (x : Vec Ideal S2048x4096 .bf16) (w : Vec Ideal S4096x512 .f32) (r : Fin 2048) (q : Fin 512) :
    k0_pay1 (F := Ideal) x w (ix2 r q) = dot (M := 2048) (K := 4096) (N := 512) x w r q :=
  matmul_zero (φ₁ := .bf16) none x (truncf (F := Ideal) .bf16 w bitsLt_bf16_f32) r q

/-- The blocks in the order of the grid. -/
theorem place : ∀ t : Fin cfg0.N, (win0_0.index t 0 = t.val / 8 ∧ win0_0.index t 1 = 0) ∧ (win0_1.index t 0 = 0 ∧ win0_1.index t 1 = t.val % 8 + 8) ∧ win0_2.index t 0 = t.val / 8 ∧ win0_2.index t 1 = t.val % 8 :=
  (by decide +kernel : ∀ t : Fin grid0.N, (win0_0.index t 0 = t.val / 8 ∧ win0_0.index t 1 = 0) ∧ (win0_1.index t 0 = 0 ∧ win0_1.index t 1 = t.val % 8 + 8) ∧ win0_2.index t 0 = t.val / 8 ∧ win0_2.index t 1 = t.val % 8)

theorem flushed_eq (c : Dev nD) (t : Fin cfg0.N) :
    (dats m 0 c).flushed 2 t = (win0_2.blk t).view.read (Elt Ideal) (G m c) := by
  rw [Value.flushed2]
  unfold out0_2
  rw [View.canon_unit_zero hz, View.ld_unit_zero hz, View.ld_unit_zero hz]
  funext y
  obtain ⟨r, q, rfl⟩ : ∃ (r : Fin 2048) (q : Fin 512), y = ix2 r q := ⟨y 0, y 1, eq_ix2 y⟩
  refine (pay_apply _ _ r q).trans ?_
  obtain ⟨⟨a0, a1⟩, ⟨b0, b1⟩, c0, c1⟩ := place t
  refine dot_blk (X := X m c) (W := W m c) (e := fun i => (win0_0.blk t).view.emb i) (f := fun i => (win0_1.blk t).view.emb i) (fun k => ?_) (fun k => ?_) (fun k => ?_) (fun k => ?_)
  · show win0_0.index t 0 * 2048 + 1 * r.val = win0_2.index t 0 * 2048 + 1 * r.val; omega
  · show win0_0.index t 1 * 4096 + 1 * k.val = k.val; omega
  · show win0_1.index t 0 * 4096 + 1 * k.val = k.val; omega
  · show win0_1.index t 1 * 512 + 1 * q.val = 4096 + (win0_2.index t 1 * 512 + 1 * q.val); omega

theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 32 := N_0
  obtain ⟨t, ht⟩ : ∃ t : Fin cfg0.N, t.val = (i 0).val / 2048 * 8 + (i 1).val / 512 := ⟨⟨_, by omega⟩, rfl⟩
  obtain ⟨-, -, c0, c1⟩ := place t
  refine ⟨t, flush0_2 t, ?_⟩
  show i ∈ ((View.whole main_v0).slice (win0_2.rect t)).set
  rw [View.set_slice_whole, Rect.mem_set_unit]
  intro a
  match a with
  | ⟨0, _⟩ => show win0_2.index t 0 * 2048 ≤ (i 0).val ∧ (i 0).val < win0_2.index t 0 * 2048 + 2048; omega
  | ⟨1, _⟩ => show win0_2.index t 1 * 512 ≤ (i 1).val ∧ (i 1).val < win0_2.index t 1 * 512 + 512; omega

theorem final (c : Dev nD) : (dats m 0 c).arrAt 2 cfg0.N = G m c :=
  (dats m 0 c).arrAt_eq_of_cover 2 (G m c) (fun t _ => flushed_eq m c t) cover

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference5Ideal.Value.run (F := Ideal) m' ρ')
  rw [(hagree c).1, (hagree c).2]
  funext i
  obtain ⟨r, q, rfl⟩ : ∃ (r : Fin 8192) (q : Fin 4096), i = ix2 r q := ⟨i 0, i 1, eq_ix2 i⟩
  exact host_cols (n := 4096) (N := 28672) (φ₁ := .f32) (φ₂ := .f32) none 4096 (by decide) (X m c) (W m c) (by decide) r q

end Cert.Proof.Mm.K

end
-- ==== Proof.Mm.Q.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Mm.Base
public import Idealize.ShloMosaic.Lib.Quiescent

/-! The queries, transposed: the first 4096 columns of the input projection. -/

@[expose] public section

noncomputable section

open Idealize.ShloMosaic Idealize.ShloMosaic.TcCoe Idealize.SL.Sem Idealize.ShloMosaic.ValueIdx
open Idealize.ShloMosaic.Pipeline (Dat)

namespace Cert.Proof.Mm.Q

open Cert.Kernel4Ideal Cert.Kernel4Ideal.Gen

variable (m : (ℓ : Loc nD τ sig) → Buf (Elt Ideal) ℓ) (ρ : Dev nD → PrngReg)

/-- The input and the weight. -/
abbrev X (c : Dev nD) : S8192x4096.Idx → EReal := m ((c : Thread nD τ).loc main_arg0)
abbrev W (c : Dev nD) : S4096x28672.Idx → EReal := m ((c : Thread nD τ).loc main_arg1)

/-- What the result is shown to hold. -/
def G (c : Dev nD) : Vec Ideal S4096x8192 .bf16 := fun i => dot (X m c) (W m c) (i 1) (col (n := 4096) (N := 28672) 0 (by decide) (i 0))

theorem pay_apply (x : Vec Ideal S2048x4096 .bf16) (w : Vec Ideal S4096x512 .f32) (r : Fin 2048) (q : Fin 512) :
    k0_pay1 (F := Ideal) x w (ix2 q r) = dot (M := 2048) (K := 4096) (N := 512) x w r q :=
  (transpose_ix2_apply _ transposes_S2048x512_p1_0_S512x2048 q r).trans (matmul_zero (φ₁ := .bf16) none x (truncf (F := Ideal) .bf16 w bitsLt_bf16_f32) r q)

/-- The blocks in the order of the grid. -/
theorem place : ∀ t : Fin cfg0.N, (win0_0.index t 0 = t.val / 8 ∧ win0_0.index t 1 = 0) ∧ (win0_1.index t 0 = 0 ∧ win0_1.index t 1 = t.val % 8) ∧ win0_2.index t 0 = t.val % 8 ∧ win0_2.index t 1 = t.val / 8 :=
  (by decide +kernel : ∀ t : Fin grid0.N, (win0_0.index t 0 = t.val / 8 ∧ win0_0.index t 1 = 0) ∧ (win0_1.index t 0 = 0 ∧ win0_1.index t 1 = t.val % 8) ∧ win0_2.index t 0 = t.val % 8 ∧ win0_2.index t 1 = t.val / 8)

theorem flushed_eq (c : Dev nD) (t : Fin cfg0.N) :
    (dats m 0 c).flushed 2 t = (win0_2.blk t).view.read (Elt Ideal) (G m c) := by
  rw [Value.flushed2]
  unfold out0_2
  rw [View.canon_unit_zero hz, View.ld_unit_zero hz, View.ld_unit_zero hz]
  funext y
  obtain ⟨r, q, rfl⟩ : ∃ (r : Fin 2048) (q : Fin 512), y = ix2 q r := ⟨y 1, y 0, eq_ix2 y⟩
  refine (pay_apply _ _ r q).trans ?_
  obtain ⟨⟨a0, a1⟩, ⟨b0, b1⟩, c0, c1⟩ := place t
  refine dot_blk (X := X m c) (W := W m c) (e := fun i => (win0_0.blk t).view.emb i) (f := fun i => (win0_1.blk t).view.emb i) (fun k => ?_) (fun k => ?_) (fun k => ?_) (fun k => ?_)
  · show win0_0.index t 0 * 2048 + 1 * r.val = win0_2.index t 1 * 2048 + 1 * r.val; omega
  · show win0_0.index t 1 * 4096 + 1 * k.val = k.val; omega
  · show win0_1.index t 0 * 4096 + 1 * k.val = k.val; omega
  · show win0_1.index t 1 * 512 + 1 * q.val = 0 + (win0_2.index t 0 * 512 + 1 * q.val); omega

theorem cover (i : S4096x8192.Idx) : ∃ t : Fin cfg0.N, (cfg0.win 2).flush t = true ∧ i ∈ ((cfg0.win 2).blk t).view.set := by
  have h0 : (i 0).val < 4096 := (i 0).isLt
  have h1 : (i 1).val < 8192 := (i 1).isLt
  have hN : cfg0.N = 32 := N_0
  obtain ⟨t, ht⟩ : ∃ t : Fin cfg0.N, t.val = (i 1).val / 2048 * 8 + (i 0).val / 512 := ⟨⟨_, by omega⟩, rfl⟩
  obtain ⟨-, -, c0, c1⟩ := place t
  refine ⟨t, flush0_2 t, ?_⟩
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512; omega
  | ⟨1, _⟩ => show win0_2.index t 1 * 2048 ≤ (i 1).val ∧ (i 1).val < win0_2.index t 1 * 2048 + 2048; omega

theorem final (c : Dev nD) : (dats m 0 c).arrAt 2 cfg0.N = G m c :=
  (dats m 0 c).arrAt_eq_of_cover 2 (G m c) (fun t _ => flushed_eq m c t) cover

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨fun c => G m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.Reference4Ideal.Value.run (F := Ideal) m' ρ')
  rw [(hagree c).1, (hagree c).2]
  funext i
  obtain ⟨r, q, rfl⟩ : ∃ (r : Fin 8192) (q : Fin 4096), i = ix2 q r := ⟨i 1, i 0, eq_ix2 i⟩
  exact (transpose_ix2_apply _ _ q r).trans (host_cols (n := 4096) (N := 28672) (φ₁ := .f32) (φ₂ := .f32) none 0 (by decide) (X m c) (W m c) (by decide) r q)

end Cert.Proof.Mm.Q

end
-- ==== Proof.lean ====
/- The claims: of the two launches of the attention that each program runs and leaves its arguments as they were, and that
   the idealised kernel is the kernel with its two rounded constants named; of the launches of products also that the
   idealised kernel and the reference compute the same function. -/
module

public import proofs.«01_k».proof.Defs
public import proofs.«01_k».proof.Proof.Gen.ReferenceIdeal.Run
public import proofs.«01_k».proof.Proof.Frame
public import proofs.«01_k».proof.Proof.I.Frame
public import proofs.«01_k».proof.Proof.Mm.Up
public import proofs.«01_k».proof.Proof.Mm.Down
public import proofs.«01_k».proof.Proof.Mm.Ple
public import proofs.«01_k».proof.Proof.Mm.Mix
public import proofs.«01_k».proof.Proof.Mm.Merge
public import proofs.«01_k».proof.Proof.Mm.Gates
public import proofs.«01_k».proof.Proof.Mm.Glu
public import proofs.«01_k».proof.Proof.Mm.V
public import proofs.«01_k».proof.Proof.Mm.K
public import proofs.«01_k».proof.Proof.Mm.Q
public import Idealize.ShloMosaic.Lib.Quiescent

@[expose] public section

noncomputable section

namespace Cert.Proof

open Idealize.ShloMosaic Idealize.SL.Sem

theorem frame_kernel : Cert.quiescent_Kernel := fun m ρ _ => Cert.Proof.K1.frame_run m ρ

theorem frame_kernelIdeal : Cert.quiescent_KernelIdeal := fun m ρ _ => Cert.Proof.I1.frame_run m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both named constants denote the reals the table gives them. -/
theorem preserves_kernel : Cert.preserves_Kernel_KernelIdeal :=
  ⟨IdealRules.named_const.statement Cert.KernelIdeal.κ "scale_log2" .f32 0x3E0293EE#32 (((Real.sqrt 128)⁻¹ * (Real.log 2)⁻¹ : ℝ) : EReal) rfl,
   IdealRules.named_const.statement Cert.KernelIdeal.κ "log2e" .f32 0x3FB8AA3B#32 (((Real.log 2)⁻¹ : ℝ) : EReal) rfl⟩

/-- In the launches of products nothing was rewritten, so that claim is trivial of each. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  frame_kernel, frame_kernelIdeal, frame_reference,
  Mm.Up.frame_p, Mm.Up.frame_pi, Mm.Up.frame_ri,
  Mm.Down.frame_p, Mm.Down.frame_pi, Mm.Down.frame_ri,
  Mm.Q.frame_p, Mm.Q.frame_pi, Mm.Q.frame_ri,
  Mm.K.frame_p, Mm.K.frame_pi, Mm.K.frame_ri,
  Mm.V.frame_p, Mm.V.frame_pi, Mm.V.frame_ri,
  Mm.Glu.frame_p, Mm.Glu.frame_pi, Mm.Glu.frame_ri,
  Mm.Gates.frame_p, Mm.Gates.frame_pi, Mm.Gates.frame_ri,
  Mm.Merge.frame_p, Mm.Merge.frame_pi, Mm.Merge.frame_ri,
  Mm.Mix.frame_p, Mm.Mix.frame_pi, Mm.Mix.frame_ri,
  Mm.Ple.frame_p, Mm.Ple.frame_pi, Mm.Ple.frame_ri,
  preserves_kernel,
  trivial, Mm.Up.algebraic,
  trivial, Mm.Down.algebraic,
  trivial, Mm.Q.algebraic,
  trivial, Mm.K.algebraic,
  trivial, Mm.V.algebraic,
  trivial, Mm.Glu.algebraic,
  trivial, Mm.Gates.algebraic,
  trivial, Mm.Merge.algebraic,
  trivial, Mm.Mix.algebraic,
  trivial, Mm.Ple.algebraic⟩

end Cert.Proof

end
